-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ResidNorm (m : (ℓ : Loc Cert.ResidNorm.nD Cert.ResidNorm.τ Cert.ResidNorm.sig) → Buf (Elt Bits) ℓ) : Prop :=
  True

def Pre_ResidNormIdeal (m : (ℓ : Loc Cert.ResidNormIdeal.nD Cert.ResidNormIdeal.τ Cert.ResidNormIdeal.sig) → Buf (Elt Ideal) ℓ) : Prop :=
  True

def Pre_ResidNormRefIdeal (m : (ℓ : Loc Cert.ResidNormRefIdeal.nD Cert.ResidNormRefIdeal.τ Cert.ResidNormRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_ResidNorm [hResidNorm : Cert.ResidNorm.Facts] : Prop :=
  ∀ (m : (ℓ : Loc Cert.ResidNorm.nD Cert.ResidNorm.τ Cert.ResidNorm.sig) → Buf (Elt Bits) ℓ) (g : Dev Cert.ResidNorm.nD → PrngReg), Pre_ResidNorm m →
    θ_run (Cert.ResidNorm.defs (F := Bits)) (onTc (τ := Cert.ResidNorm.τ) (Cert.ResidNorm.main (F := Bits))) ⟨m, fun _ => 0, g⟩ (fun r => (∀ c : Dev Cert.ResidNorm.nD,
      r.2.mem ((c.tc : Thread Cert.ResidNorm.nD Cert.ResidNorm.τ).loc Cert.ResidNorm.main_arg0) = m ((c.tc : Thread Cert.ResidNorm.nD Cert.ResidNorm.τ).loc Cert.ResidNorm.main_arg0)
      ∧ r.2.mem ((c.tc : Thread Cert.ResidNorm.nD Cert.ResidNorm.τ).loc Cert.ResidNorm.main_arg1) = m ((c.tc : Thread Cert.ResidNorm.nD Cert.ResidNorm.τ).loc Cert.ResidNorm.main_arg1)
      ∧ r.2.mem ((c.tc : Thread Cert.ResidNorm.nD Cert.ResidNorm.τ).loc Cert.ResidNorm.main_arg2) = m ((c.tc : Thread Cert.ResidNorm.nD Cert.ResidNorm.τ).loc Cert.ResidNorm.main_arg2)
      ∧ r.2.mem ((c.tc : Thread Cert.ResidNorm.nD Cert.ResidNorm.τ).loc Cert.ResidNorm.main_arg3) = m ((c.tc : Thread Cert.ResidNorm.nD Cert.ResidNorm.τ).loc Cert.ResidNorm.main_arg3))
      ∧ r.2.sem = fun _ => 0)

def quiescent_ResidNormIdeal [hResidNormIdeal : Cert.ResidNormIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg), Pre_ResidNormIdeal m →
    θ_run (Cert.ResidNormIdeal.defs (F := Ideal)) (onTc (τ := Cert.ResidNormIdeal.τ) (Cert.ResidNormIdeal.main (F := Ideal))) ⟨m, fun _ => 0, g⟩ (fun r => (∀ c : Dev Cert.ResidNormIdeal.nD,
      r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
      ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
      ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
      ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3))
      ∧ r.2.sem = fun _ => 0)

def quiescent_ResidNormRefIdeal [hResidNormRefIdeal : Cert.ResidNormRefIdeal.Facts] : Prop :=
  ∀ (m : (ℓ : Loc Cert.ResidNormRefIdeal.nD Cert.ResidNormRefIdeal.τ Cert.ResidNormRefIdeal.sig) → Buf (Elt Ideal) ℓ) (g : Dev Cert.ResidNormRefIdeal.nD → PrngReg), Pre_ResidNormRefIdeal m →
    θ_run (Cert.ResidNormRefIdeal.defs (F := Ideal)) (onTc (τ := Cert.ResidNormRefIdeal.τ) (Cert.ResidNormRefIdeal.main (F := Ideal))) ⟨m, fun _ => 0, g⟩ (fun r => (∀ c : Dev Cert.ResidNormRefIdeal.nD,
      r.2.mem ((c.tc : Thread Cert.ResidNormRefIdeal.nD Cert.ResidNormRefIdeal.τ).loc Cert.ResidNormRefIdeal.main_arg0) = m ((c.tc : Thread Cert.ResidNormRefIdeal.nD Cert.ResidNormRefIdeal.τ).loc Cert.ResidNormRefIdeal.main_arg0)
      ∧ r.2.mem ((c.tc : Thread Cert.ResidNormRefIdeal.nD Cert.ResidNormRefIdeal.τ).loc Cert.ResidNormRefIdeal.main_arg1) = m ((c.tc : Thread Cert.ResidNormRefIdeal.nD Cert.ResidNormRefIdeal.τ).loc Cert.ResidNormRefIdeal.main_arg1)
      ∧ r.2.mem ((c.tc : Thread Cert.ResidNormRefIdeal.nD Cert.ResidNormRefIdeal.τ).loc Cert.ResidNormRefIdeal.main_arg2) = m ((c.tc : Thread Cert.ResidNormRefIdeal.nD Cert.ResidNormRefIdeal.τ).loc Cert.ResidNormRefIdeal.main_arg2)
      ∧ r.2.mem ((c.tc : Thread Cert.ResidNormRefIdeal.nD Cert.ResidNormRefIdeal.τ).loc Cert.ResidNormRefIdeal.main_arg3) = m ((c.tc : Thread Cert.ResidNormRefIdeal.nD Cert.ResidNormRefIdeal.τ).loc Cert.ResidNormRefIdeal.main_arg3))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v34) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v45) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v9) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v4) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v4) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_ResidNorm_ResidNormIdeal : Prop :=
  True

def algebraic_ResidNormIdeal_ResidNormRefIdeal [hResidNormIdeal : Cert.ResidNormIdeal.Facts] [hResidNormRefIdeal : Cert.ResidNormRefIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg)
    (m' : (ℓ : Loc Cert.ResidNormRefIdeal.nD Cert.ResidNormRefIdeal.τ Cert.ResidNormRefIdeal.sig) → Buf (Elt Ideal) ℓ) (g' : Dev Cert.ResidNormRefIdeal.nD → PrngReg), Pre_ResidNormIdeal m →
    (∀ c : Dev Cert.ResidNormIdeal.nD,
      m' ((c.tc : Thread Cert.ResidNormRefIdeal.nD Cert.ResidNormRefIdeal.τ).loc Cert.ResidNormRefIdeal.main_arg0) = m ((c.tc : Thread Cert.ResidNormIdeal.nD Cert.ResidNormIdeal.τ).loc Cert.ResidNormIdeal.main_arg0)
      ∧ m' ((c.tc : Thread Cert.ResidNormRefIdeal.nD Cert.ResidNormRefIdeal.τ).loc Cert.ResidNormRefIdeal.main_arg1) = m ((c.tc : Thread Cert.ResidNormIdeal.nD Cert.ResidNormIdeal.τ).loc Cert.ResidNormIdeal.main_arg1)
      ∧ m' ((c.tc : Thread Cert.ResidNormRefIdeal.nD Cert.ResidNormRefIdeal.τ).loc Cert.ResidNormRefIdeal.main_arg2) = m ((c.tc : Thread Cert.ResidNormIdeal.nD Cert.ResidNormIdeal.τ).loc Cert.ResidNormIdeal.main_arg2)
      ∧ m' ((c.tc : Thread Cert.ResidNormRefIdeal.nD Cert.ResidNormRefIdeal.τ).loc Cert.ResidNormRefIdeal.main_arg3) = m ((c.tc : Thread Cert.ResidNormIdeal.nD Cert.ResidNormIdeal.τ).loc Cert.ResidNormIdeal.main_arg3)) →
    ∃ (v0 : (c : Dev Cert.ResidNormIdeal.nD) → Buf (Elt Ideal) ((c.tc : Thread Cert.ResidNormIdeal.nD Cert.ResidNormIdeal.τ).loc Cert.ResidNormIdeal.main_v2_0)) (v1 : (c : Dev Cert.ResidNormIdeal.nD) → Buf (Elt Ideal) ((c.tc : Thread Cert.ResidNormIdeal.nD Cert.ResidNormIdeal.τ).loc Cert.ResidNormIdeal.main_v2_1)),
      θ_run (Cert.ResidNormIdeal.defs (F := Ideal)) (onTc (τ := Cert.ResidNormIdeal.τ) (Cert.ResidNormIdeal.main (F := Ideal))) ⟨m, fun _ => 0, g⟩ (fun r => ∀ c : Dev Cert.ResidNormIdeal.nD,
          r.2.mem ((c.tc : Thread Cert.ResidNormIdeal.nD Cert.ResidNormIdeal.τ).loc Cert.ResidNormIdeal.main_v2_0) = v0 c
          ∧ r.2.mem ((c.tc : Thread Cert.ResidNormIdeal.nD Cert.ResidNormIdeal.τ).loc Cert.ResidNormIdeal.main_v2_1) = v1 c
          ∧ r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
          ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
          ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
          ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3))
      ∧ θ_run (Cert.ResidNormRefIdeal.defs (F := Ideal)) (onTc (τ := Cert.ResidNormRefIdeal.τ) (Cert.ResidNormRefIdeal.main (F := Ideal))) ⟨m', fun _ => 0, g'⟩ (fun r => ∀ c : Dev Cert.ResidNormRefIdeal.nD,
          r.2.mem ((c.tc : Thread Cert.ResidNormRefIdeal.nD Cert.ResidNormRefIdeal.τ).loc Cert.ResidNormRefIdeal.main_v14) = v0 c
          ∧ r.2.mem ((c.tc : Thread Cert.ResidNormRefIdeal.nD Cert.ResidNormRefIdeal.τ).loc Cert.ResidNormRefIdeal.main_v28) = v1 c
          ∧ r.2.mem ((c.tc : Thread Cert.ResidNormRefIdeal.nD Cert.ResidNormRefIdeal.τ).loc Cert.ResidNormRefIdeal.main_arg0) = m' ((c.tc : Thread Cert.ResidNormRefIdeal.nD Cert.ResidNormRefIdeal.τ).loc Cert.ResidNormRefIdeal.main_arg0)
          ∧ r.2.mem ((c.tc : Thread Cert.ResidNormRefIdeal.nD Cert.ResidNormRefIdeal.τ).loc Cert.ResidNormRefIdeal.main_arg1) = m' ((c.tc : Thread Cert.ResidNormRefIdeal.nD Cert.ResidNormRefIdeal.τ).loc Cert.ResidNormRefIdeal.main_arg1)
          ∧ r.2.mem ((c.tc : Thread Cert.ResidNormRefIdeal.nD Cert.ResidNormRefIdeal.τ).loc Cert.ResidNormRefIdeal.main_arg2) = m' ((c.tc : Thread Cert.ResidNormRefIdeal.nD Cert.ResidNormRefIdeal.τ).loc Cert.ResidNormRefIdeal.main_arg2)
          ∧ r.2.mem ((c.tc : Thread Cert.ResidNormRefIdeal.nD Cert.ResidNormRefIdeal.τ).loc Cert.ResidNormRefIdeal.main_arg3) = m' ((c.tc : Thread Cert.ResidNormRefIdeal.nD Cert.ResidNormRefIdeal.τ).loc Cert.ResidNormRefIdeal.main_arg3))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)) →
    ∃ (v0 : (c : Dev Cert.ResidIdeal.nD) → Buf (Elt Ideal) ((c.tc : Thread Cert.ResidIdeal.nD Cert.ResidIdeal.τ).loc Cert.ResidIdeal.main_v1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v1) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v14) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2))

def Claim : Prop :=
  ∃ (hConv : Cert.Conv.Facts) (hConvIdeal : Cert.ConvIdeal.Facts) (hConvRefIdeal : Cert.ConvRefIdeal.Facts) (hFfnIn : Cert.FfnIn.Facts) (hFfnInIdeal : Cert.FfnInIdeal.Facts) (hFfnInRefIdeal : Cert.FfnInRefIdeal.Facts) (hInProj : Cert.InProj.Facts) (hInProjIdeal : Cert.InProjIdeal.Facts) (hInProjRefIdeal : Cert.InProjRefIdeal.Facts) (hFfnOut : Cert.FfnOut.Facts) (hFfnOutIdeal : Cert.FfnOutIdeal.Facts) (hFfnOutRefIdeal : Cert.FfnOutRefIdeal.Facts) (hMixOut : Cert.MixOut.Facts) (hMixOutIdeal : Cert.MixOutIdeal.Facts) (hMixOutRefIdeal : Cert.MixOutRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hResidNorm : Cert.ResidNorm.Facts) (hResidNormIdeal : Cert.ResidNormIdeal.Facts) (hResidNormRefIdeal : Cert.ResidNormRefIdeal.Facts) (hResid : Cert.Resid.Facts) (hResidIdeal : Cert.ResidIdeal.Facts) (hResidRefIdeal : Cert.ResidRefIdeal.Facts),
    quiescent_Conv (hConv := hConv)
    ∧ quiescent_ConvIdeal (hConvIdeal := hConvIdeal)
    ∧ quiescent_ConvRefIdeal (hConvRefIdeal := hConvRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_InProj (hInProj := hInProj)
    ∧ quiescent_InProjIdeal (hInProjIdeal := hInProjIdeal)
    ∧ quiescent_InProjRefIdeal (hInProjRefIdeal := hInProjRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_ResidNorm (hResidNorm := hResidNorm)
    ∧ quiescent_ResidNormIdeal (hResidNormIdeal := hResidNormIdeal)
    ∧ quiescent_ResidNormRefIdeal (hResidNormRefIdeal := hResidNormRefIdeal)
    ∧ quiescent_Resid (hResid := hResid)
    ∧ quiescent_ResidIdeal (hResidIdeal := hResidIdeal)
    ∧ quiescent_ResidRefIdeal (hResidRefIdeal := hResidRefIdeal)
    ∧ preserves_Conv_ConvIdeal
    ∧ algebraic_ConvIdeal_ConvRefIdeal (hConvIdeal := hConvIdeal) (hConvRefIdeal := hConvRefIdeal)
    ∧ preserves_FfnIn_FfnInIdeal
    ∧ algebraic_FfnInIdeal_FfnInRefIdeal (hFfnInIdeal := hFfnInIdeal) (hFfnInRefIdeal := hFfnInRefIdeal)
    ∧ preserves_InProj_InProjIdeal
    ∧ algebraic_InProjIdeal_InProjRefIdeal (hInProjIdeal := hInProjIdeal) (hInProjRefIdeal := hInProjRefIdeal)
    ∧ preserves_FfnOut_FfnOutIdeal
    ∧ algebraic_FfnOutIdeal_FfnOutRefIdeal (hFfnOutIdeal := hFfnOutIdeal) (hFfnOutRefIdeal := hFfnOutRefIdeal)
    ∧ preserves_MixOut_MixOutIdeal
    ∧ algebraic_MixOutIdeal_MixOutRefIdeal (hMixOutIdeal := hMixOutIdeal) (hMixOutRefIdeal := hMixOutRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_ResidNorm_ResidNormIdeal
    ∧ algebraic_ResidNormIdeal_ResidNormRefIdeal (hResidNormIdeal := hResidNormIdeal) (hResidNormRefIdeal := hResidNormRefIdeal)
    ∧ preserves_Resid_ResidIdeal
    ∧ algebraic_ResidIdeal_ResidRefIdeal (hResidIdeal := hResidIdeal) (hResidRefIdeal := hResidRefIdeal)
-- ==== Conv.lean ====
abbrev S16384x4096 : Shape := ⟨2, ![16384, 4096]⟩
abbrev S2x4096x20480 : Shape := ⟨3, ![2, 4096, 20480]⟩
abbrev S3x2048 : Shape := ⟨2, ![3, 2048]⟩
abbrev S16384x2048 : Shape := ⟨2, ![16384, 2048]⟩
abbrev S1024x4096 : Shape := ⟨2, ![1024, 4096]⟩
abbrev S1x4096x256 : Shape := ⟨3, ![1, 4096, 256]⟩
abbrev S3x256 : Shape := ⟨2, ![3, 256]⟩
abbrev S1024x256 : Shape := ⟨2, ![1024, 256]⟩
abbrev S4096x256 : Shape := ⟨2, ![4096, 256]⟩
abbrev S8x256 : Shape := ⟨2, ![8, 256]⟩
abbrev S1x1024x256 : Shape := ⟨3, ![1, 1024, 256]⟩
abbrev S1024x1024 : Shape := ⟨2, ![1024, 1024]⟩
abbrev S1032x256 : Shape := ⟨2, ![1032, 256]⟩
abbrev S1x256 : Shape := ⟨2, ![1, 256]⟩

abbrev nBuf : Space → Nat
  | .hbm => 4
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S2x4096x20480, .f32⟩
  | .hbm, ⟨2, _⟩ => ⟨S3x2048, .f32⟩
  | .hbm, ⟨3, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S1x4096x256, .f32⟩
  | .local _ .vmem, ⟨8, _⟩ => ⟨S3x256, .f32⟩
  | .local _ .vmem, ⟨9, _⟩ => ⟨S3x256, .f32⟩
  | .local _ .vmem, ⟨10, _⟩ => ⟨S1024x256, .bf16⟩
  | .local _ .vmem, ⟨11, _⟩ => ⟨S1024x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S8x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c0_i32_5 : BitVec 32 := 0#32
  let v13 : BitVec 1 := Scalar.cmpi .eq arg1 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg1 : BitVec 32 := BitVec.ofNat 32 (i 1).val
  let c0_i32_7 : BitVec 32 := 0#32
  let v16 : BitVec 1 := Scalar.cmpi .ne arg1 c0_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S16384x4096 : Shape := ⟨2, ![16384, 4096]⟩
abbrev S2x4096x20480 : Shape := ⟨3, ![2, 4096, 20480]⟩
abbrev S3x2048 : Shape := ⟨2, ![3, 2048]⟩
abbrev S1x4096x20480 : Shape := ⟨3, ![1, 4096, 20480]⟩
abbrev S4096x20480 : Shape := ⟨2, ![4096, 20480]⟩
abbrev S16384x20480 : Shape := ⟨2, ![16384, 20480]⟩
abbrev S2x8192x20480 : Shape := ⟨3, ![2, 8192, 20480]⟩
abbrev S2x8192x2048 : Shape := ⟨3, ![2, 8192, 2048]⟩
abbrev S_ : Shape := ⟨0, ![]⟩
abbrev S2x8194x2048 : Shape := ⟨3, ![2, 8194, 2048]⟩
abbrev S1x2048 : Shape := ⟨2, ![1, 2048]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x20480, .f32⟩
  | .hbm, ⟨2, _⟩ => ⟨S3x2048, .f32⟩
  | .hbm, ⟨3, _⟩ => ⟨S1x4096x20480, .f32⟩
  | .hbm, ⟨4, _⟩ => ⟨S4096x20480, .f32⟩
  | .hbm, ⟨5, _⟩ => ⟨S16384x4096, .f32⟩
  | .hbm, ⟨6, _⟩ => ⟨S16384x20480, .f32⟩
  | .hbm, ⟨7, _⟩ => ⟨S2x8192x20480, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S_, .i32⟩
  | .hbm, ⟨13, _⟩ => ⟨S_, .f32⟩
  | .hbm, ⟨14, _⟩ => ⟨S2x8194x2048, .f32⟩
  | .hbm, ⟨15, _⟩ => ⟨S1x2048, .f32⟩
  | .hbm, ⟨16, _⟩ => ⟨S2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S_, .f32⟩
  | .hbm, ⟨22, _⟩ => ⟨S2x8192x2048, .f32⟩
  | .hbm, ⟨23, _⟩ => ⟨S2x8192x2048, .f32⟩
  | .hbm, ⟨24, _⟩ => ⟨S1x2048, .f32⟩
  | .hbm, ⟨25, _⟩ => ⟨S2048, .f32⟩
  | .hbm, ⟨26, _⟩ => ⟨S2x8192x2048, .f32⟩
  | .hbm, ⟨27, _⟩ => ⟨S1x1x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S1x2048, .f32⟩
  | .hbm, ⟨32, _⟩ => ⟨S2048, .f32⟩
  | .hbm, ⟨33, _⟩ => ⟨S2x8192x2048, .f32⟩
  | .hbm, ⟨34, _⟩ => ⟨S1x1x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x8192x2048, .f32⟩
  | .hbm, ⟨39, _⟩ => ⟨S16384x2048, .f32⟩
  | .hbm, ⟨40, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== FfnIn.lean ====
abbrev S16384x4096 : Shape := ⟨2, ![16384, 4096]⟩
abbrev S2x4096x22016 : Shape := ⟨3, ![2, 4096, 22016]⟩
abbrev S3x11008 : Shape := ⟨2, ![3, 11008]⟩
abbrev S16384x11008 : Shape := ⟨2, ![16384, 11008]⟩
abbrev S1024x4096 : Shape := ⟨2, ![1024, 4096]⟩
abbrev S1x4096x256 : Shape := ⟨3, ![1, 4096, 256]⟩
abbrev S3x256 : Shape := ⟨2, ![3, 256]⟩
abbrev S1024x256 : Shape := ⟨2, ![1024, 256]⟩
abbrev S4096x256 : Shape := ⟨2, ![4096, 256]⟩
abbrev S8x256 : Shape := ⟨2, ![8, 256]⟩
abbrev S1x1024x256 : Shape := ⟨3, ![1, 1024, 256]⟩
abbrev S1024x1024 : Shape := ⟨2, ![1024, 1024]⟩
abbrev S1032x256 : Shape := ⟨2, ![1032, 256]⟩
abbrev S1x256 : Shape := ⟨2, ![1, 256]⟩

abbrev nBuf : Space → Nat
  | .hbm => 4
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S3x11008, .f32⟩
  | .hbm, ⟨3, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S3x256, .f32⟩
  | .local _ .vmem, ⟨7, _⟩ => ⟨S3x256, .f32⟩
  | .local _ .vmem, ⟨8, _⟩ => ⟨S1024x256, .bf16⟩
  | .local _ .vmem, ⟨9, _⟩ => ⟨S1024x256, .bf16⟩
  | .local _ .vmem, ⟨10, _⟩ => ⟨S4096x256, .bf16⟩
  | .local _ .vmem, ⟨11, _⟩ => ⟨S4096x256, .bf16⟩
  | .local _ .vmem, ⟨12, _⟩ => ⟨S8x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![43, 16], ![false, false]⟩

def k0_cond2 (i : grid0.Coords) : BitVec 1 :=
  let arg1 : BitVec 32 := BitVec.ofNat 32 (i 1).val
  let c0_i32_5 : BitVec 32 := 0#32
  let v13 : BitVec 1 := Scalar.cmpi .eq arg1 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg1 : BitVec 32 := BitVec.ofNat 32 (i 1).val
  let c0_i32_7 : BitVec 32 := 0#32
  let v16 : BitVec 1 := Scalar.cmpi .ne arg1 c0_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInRefIdeal.lean ====
abbrev S16384x4096 : Shape := ⟨2, ![16384, 4096]⟩
abbrev S2x4096x22016 : Shape := ⟨3, ![2, 4096, 22016]⟩
abbrev S3x11008 : Shape := ⟨2, ![3, 11008]⟩
abbrev S1x4096x22016 : Shape := ⟨3, ![1, 4096, 22016]⟩
abbrev S4096x22016 : Shape := ⟨2, ![4096, 22016]⟩
abbrev S16384x22016 : Shape := ⟨2, ![16384, 22016]⟩
abbrev S2x8192x22016 : Shape := ⟨3, ![2, 8192, 22016]⟩
abbrev S2x8192x11008 : Shape := ⟨3, ![2, 8192, 11008]⟩
abbrev S_ : Shape := ⟨0, ![]⟩
abbrev S2x8194x11008 : Shape := ⟨3, ![2, 8194, 11008]⟩
abbrev S1x11008 : Shape := ⟨2, ![1, 11008]⟩
abbrev S11008 : Shape := ⟨1, ![11008]⟩
abbrev S1x1x11008 : Shape := ⟨3, ![1, 1, 11008]⟩
abbrev S16384x11008 : Shape := ⟨2, ![16384, 11008]⟩

abbrev nBuf : Space → Nat
  | .hbm => 56
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S3x11008, .f32⟩
  | .hbm, ⟨3, _⟩ => ⟨S1x4096x22016, .f32⟩
  | .hbm, ⟨4, _⟩ => ⟨S4096x22016, .f32⟩
  | .hbm, ⟨5, _⟩ => ⟨S16384x4096, .f32⟩
  | .hbm, ⟨6, _⟩ => ⟨S16384x22016, .f32⟩
  | .hbm, ⟨7, _⟩ => ⟨S2x8192x22016, .f32⟩
  | .hbm, ⟨8, _⟩ => ⟨S2x8192x11008, .f32⟩
  | .hbm, ⟨9, _⟩ => ⟨S2x8192x11008, .f32⟩
  | .hbm, ⟨10, _⟩ => ⟨S_, .i32⟩
  | .hbm, ⟨11, _⟩ => ⟨S_, .f32⟩
  | .hbm, ⟨12, _⟩ => ⟨S2x8194x11008, .f32⟩
  | .hbm, ⟨13, _⟩ => ⟨S1x11008, .f32⟩
  | .hbm, ⟨14, _⟩ => ⟨S11008, .f32⟩
  | .hbm, ⟨15, _⟩ => ⟨S2x8192x11008, .f32⟩
  | .hbm, ⟨16, _⟩ => ⟨S1x1x11008, .f32⟩
  | .hbm, ⟨17, _⟩ => ⟨S2x8192x11008, .f32⟩
  | .hbm, ⟨18, _⟩ => ⟨S2x8192x11008, .f32⟩
  | .hbm, ⟨19, _⟩ => ⟨S_, .f32⟩
  | .hbm, ⟨20, _⟩ => ⟨S2x8192x11008, .f32⟩
  | .hbm, ⟨21, _⟩ => ⟨S2x8192x11008, .f32⟩
  | .hbm, ⟨22, _⟩ => ⟨S1x11008, .f32⟩
  | .hbm, ⟨23, _⟩ => ⟨S11008, .f32⟩
  | .hbm, ⟨24, _⟩ => ⟨S2x8192x11008, .f32⟩
  | .hbm, ⟨25, _⟩ => ⟨S1x1x11008, .f32⟩
  | .hbm, ⟨26, _⟩ => ⟨S2x8192x11008, .f32⟩
  | .hbm, ⟨27, _⟩ => ⟨S2x8192x11008, .f32⟩
  | .hbm, ⟨28, _⟩ => ⟨S2x8192x11008, .f32⟩
  | .hbm, ⟨29, _⟩ => ⟨S1x11008, .f32⟩
  | .hbm, ⟨30, _⟩ => ⟨S11008, .f32⟩
  | .hbm, ⟨31, _⟩ => ⟨S2x8192x11008, .f32⟩
  | .hbm, ⟨32, _⟩ => ⟨S1x1x11008, .f32⟩
  | .hbm, ⟨33, _⟩ => ⟨S2x8192x11008, .f32⟩
  | .hbm, ⟨34, _⟩ => ⟨S2x8192x11008, .f32⟩
  | .hbm, ⟨35, _⟩ => ⟨S2x8192x11008, .f32⟩
  | .hbm, ⟨36, _⟩ => ⟨S2x8192x11008, .f32⟩
  | .hbm, ⟨37, _⟩ => ⟨S2x8192x11008, .f32⟩
  | .hbm, ⟨38, _⟩ => ⟨S_, .f32⟩
  | .hbm, ⟨39, _⟩ => ⟨S2x8192x11008, .f32⟩
  | .hbm, ⟨40, _⟩ => ⟨S2x8192x11008, .f32⟩
  | .hbm, ⟨41, _⟩ => ⟨S2x8192x11008, .f32⟩
  | .hbm, ⟨42, _⟩ => ⟨S_, .f32⟩
  | .hbm, ⟨43, _⟩ => ⟨S2x8192x11008, .f32⟩
  | .hbm, ⟨44, _⟩ => ⟨S2x8192x11008, .f32⟩
  | .hbm, ⟨45, _⟩ => ⟨S2x8192x11008, .f32⟩
  | .hbm, ⟨46, _⟩ => ⟨S_, .f32⟩
  | .hbm, ⟨47, _⟩ => ⟨S2x8192x11008, .f32⟩
  | .hbm, ⟨48, _⟩ => ⟨S2x8192x11008, .f32⟩
  | .hbm, ⟨49, _⟩ => ⟨S_, .f32⟩
  | .hbm, ⟨50, _⟩ => ⟨S2x8192x11008, .f32⟩
  | .hbm, ⟨51, _⟩ => ⟨S2x8192x11008, .f32⟩
  | .hbm, ⟨52, _⟩ => ⟨S2x8192x11008, .f32⟩
  | .hbm, ⟨53, _⟩ => ⟨S2x8192x11008, .f32⟩
  | .hbm, ⟨54, _⟩ => ⟨S16384x11008, .f32⟩
  | .hbm, ⟨55, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== InProj.lean ====
abbrev S16384x4096 : Shape := ⟨2, ![16384, 4096]⟩
abbrev S2x4096x20480 : Shape := ⟨3, ![2, 4096, 20480]⟩
abbrev S20480 : Shape := ⟨1, ![20480]⟩
abbrev S1x20480 : Shape := ⟨2, ![1, 20480]⟩
abbrev S16384x14336 : Shape := ⟨2, ![16384, 14336]⟩
abbrev S512x4096 : Shape := ⟨2, ![512, 4096]⟩
abbrev S1x4096x1024 : Shape := ⟨3, ![1, 4096, 1024]⟩
abbrev S1x1024 : Shape := ⟨2, ![1, 1024]⟩
abbrev S512x1024 : Shape := ⟨2, ![512, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S2x4096x20480, .f32⟩
  | .hbm, ⟨2, _⟩ => ⟨S20480, .f32⟩
  | .hbm, ⟨3, _⟩ => ⟨S1x20480, .f32⟩
  | .hbm, ⟨4, _⟩ => ⟨S16384x14336, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S4096x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x4096 : Shape := ⟨2, ![16384, 4096]⟩
abbrev S2x4096x20480 : Shape := ⟨3, ![2, 4096, 20480]⟩
abbrev S20480 : Shape := ⟨1, ![20480]⟩
abbrev S1x4096x20480 : Shape := ⟨3, ![1, 4096, 20480]⟩
abbrev S4096x20480 : Shape := ⟨2, ![4096, 20480]⟩
abbrev S16384x20480 : Shape := ⟨2, ![16384, 20480]⟩
abbrev S16384x14336 : Shape := ⟨2, ![16384, 14336]⟩
abbrev S14336 : Shape := ⟨1, ![14336]⟩
abbrev S1x14336 : Shape := ⟨2, ![1, 14336]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x20480, .f32⟩
  | .hbm, ⟨2, _⟩ => ⟨S20480, .f32⟩
  | .hbm, ⟨3, _⟩ => ⟨S1x4096x20480, .f32⟩
  | .hbm, ⟨4, _⟩ => ⟨S4096x20480, .f32⟩
  | .hbm, ⟨5, _⟩ => ⟨S16384x4096, .f32⟩
  | .hbm, ⟨6, _⟩ => ⟨S16384x20480, .f32⟩
  | .hbm, ⟨7, _⟩ => ⟨S16384x14336, .f32⟩
  | .hbm, ⟨8, _⟩ => ⟨S14336, .f32⟩
  | .hbm, ⟨9, _⟩ => ⟨S1x14336, .f32⟩
  | .hbm, ⟨10, _⟩ => ⟨S16384x14336, .f32⟩
  | .hbm, ⟨11, _⟩ => ⟨S16384x14336, .f32⟩
  | .hbm, ⟨12, _⟩ => ⟨S16384x14336, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== FfnOut.lean ====
abbrev S16384x11008 : Shape := ⟨2, ![16384, 11008]⟩
abbrev S2x11008x4096 : Shape := ⟨3, ![2, 11008, 4096]⟩
abbrev S16384x4096 : Shape := ⟨2, ![16384, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x11008, .bf16⟩
  | .hbm, ⟨1, _⟩ => ⟨S2x11008x4096, .f32⟩
  | .hbm, ⟨2, _⟩ => ⟨S2x11008x4096, .bf16⟩
  | .hbm, ⟨3, _⟩ => ⟨S16384x4096, .bf16⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .bf16⟩
  | .local _ .vmem, ⟨5, _⟩ => ⟨S512x512, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnOutRefIdeal.lean ====
abbrev S16384x11008 : Shape := ⟨2, ![16384, 11008]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S2x11008x4096, .f32⟩
  | .hbm, ⟨2, _⟩ => ⟨S1x11008x4096, .f32⟩
  | .hbm, ⟨3, _⟩ => ⟨S11008x4096, .f32⟩
  | .hbm, ⟨4, _⟩ => ⟨S16384x11008, .f32⟩
  | .hbm, ⟨5, _⟩ => ⟨S16384x4096, .f32⟩
  | .hbm, ⟨6, _⟩ => ⟨S16384x4096, .bf16⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixOut.lean ====
abbrev S16384x4096 : Shape := ⟨2, ![16384, 4096]⟩
abbrev S2x4096x4096 : Shape := ⟨3, ![2, 4096, 4096]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutRefIdeal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S1x4096x4096, .f32⟩
  | .hbm, ⟨3, _⟩ => ⟨S4096x4096, .f32⟩
  | .hbm, ⟨4, _⟩ => ⟨S16384x4096, .f32⟩
  | .hbm, ⟨5, _⟩ => ⟨S16384x4096, .f32⟩
  | .hbm, ⟨6, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S16384x2048 : Shape := ⟨2, ![16384, 2048]⟩
abbrev S2x2048x4096 : Shape := ⟨3, ![2, 2048, 4096]⟩
abbrev S16384x14336 : Shape := ⟨2, ![16384, 14336]⟩
abbrev S8192 : Shape := ⟨1, ![8192]⟩
abbrev S1x8192 : Shape := ⟨2, ![1, 8192]⟩
abbrev S16384x4096 : Shape := ⟨2, ![16384, 4096]⟩
abbrev S1024x2048 : Shape := ⟨2, ![1024, 2048]⟩
abbrev S1x2048x512 : Shape := ⟨3, ![1, 2048, 512]⟩
abbrev S1024x512 : Shape := ⟨2, ![1024, 512]⟩
abbrev S1x512 : Shape := ⟨2, ![1, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 8
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x2048x4096, .f32⟩
  | .hbm, ⟨3, _⟩ => ⟨S2x2048x4096, .f32⟩
  | .hbm, ⟨4, _⟩ => ⟨S16384x14336, .bf16⟩
  | .hbm, ⟨5, _⟩ => ⟨S8192, .f32⟩
  | .hbm, ⟨6, _⟩ => ⟨S1x8192, .f32⟩
  | .hbm, ⟨7, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S2048x512, .bf16⟩
  | .local _ .vmem, ⟨19, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S16384x2048 : Shape := ⟨2, ![16384, 2048]⟩
abbrev S2x2048x4096 : Shape := ⟨3, ![2, 2048, 4096]⟩
abbrev S16384x14336 : Shape := ⟨2, ![16384, 14336]⟩
abbrev S8192 : Shape := ⟨1, ![8192]⟩
abbrev S16384x8192 : Shape := ⟨2, ![16384, 8192]⟩
abbrev S1x8192 : Shape := ⟨2, ![1, 8192]⟩
abbrev S_ : Shape := ⟨0, ![]⟩
abbrev S16384x4096 : Shape := ⟨2, ![16384, 4096]⟩
abbrev S1x2048x4096 : Shape := ⟨3, ![1, 2048, 4096]⟩
abbrev S2048x4096 : Shape := ⟨2, ![2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x2048x4096, .f32⟩
  | .hbm, ⟨3, _⟩ => ⟨S2x2048x4096, .f32⟩
  | .hbm, ⟨4, _⟩ => ⟨S16384x14336, .bf16⟩
  | .hbm, ⟨5, _⟩ => ⟨S8192, .f32⟩
  | .hbm, ⟨6, _⟩ => ⟨S16384x8192, .bf16⟩
  | .hbm, ⟨7, _⟩ => ⟨S16384x8192, .f32⟩
  | .hbm, ⟨8, _⟩ => ⟨S1x8192, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x4096, .f32⟩
  | .hbm, ⟨20, _⟩ => ⟨S16384x4096, .f32⟩
  | .hbm, ⟨21, _⟩ => ⟨S1x2048x4096, .f32⟩
  | .hbm, ⟨22, _⟩ => ⟨S2048x4096, .f32⟩
  | .hbm, ⟨23, _⟩ => ⟨S16384x2048, .f32⟩
  | .hbm, ⟨24, _⟩ => ⟨S16384x4096, .f32⟩
  | .hbm, ⟨25, _⟩ => ⟨S1x2048x4096, .f32⟩
  | .hbm, ⟨26, _⟩ => ⟨S2048x4096, .f32⟩
  | .hbm, ⟨27, _⟩ => ⟨S16384x2048, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ResidNorm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidNormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x4096, .f32⟩
  | .hbm, ⟨34, _⟩ => ⟨S16384x4096, .f32⟩
  | .hbm, ⟨35, _⟩ => ⟨S1x4096, .f32⟩
  | .hbm, ⟨36, _⟩ => ⟨S16384x4096, .f32⟩
  | .hbm, ⟨37, _⟩ => ⟨S16384x4096, .f32⟩
  | .hbm, ⟨38, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Resid.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Sums.lean ====
/- Sums over the extended reals, cut into pieces: what a contraction over 4096 elements is when it is summed a quarter at
   a time. Used by every kernel of this directory that multiplies by a block of weights it casts a quarter at a time. -/
module

public import Idealize.ShloMosaic.Lib.Pointwise

@[expose] public section

noncomputable section

namespace Cert.Sums

open Idealize.ShloMosaic

/-- A sum over `4 * n` elements is the four quarters' sums added first to last. -/
theorem quarters {n N : Nat} (hN : N = n + n + n + n) (f : Fin N → EReal) :
    (∑ x : Fin n, f ⟨x.val, by omega⟩) + (∑ x : Fin n, f ⟨n + x.val, by omega⟩)
      + (∑ x : Fin n, f ⟨n + n + x.val, by omega⟩) + (∑ x : Fin n, f ⟨n + n + n + x.val, by omega⟩) = ∑ k : Fin N, f k := by
  subst hN
  rw [Fin.sum_univ_add, Fin.sum_univ_add, Fin.sum_univ_add]
  rfl

/-- The four quarters of a contraction over 4096 elements, as the kernels' bodies spell them. -/
theorem quarters4096 (f : Fin 4096 → EReal) :
    (∑ x : Fin 1024, f ⟨x.val, by omega⟩) + (∑ x : Fin 1024, f ⟨1024 + x.val, by omega⟩)
      + (∑ x : Fin 1024, f ⟨2048 + x.val, by omega⟩) + (∑ x : Fin 1024, f ⟨3072 + x.val, by omega⟩) = ∑ k : Fin 4096, f k :=
  quarters (n := 1024) rfl f

/-- Those quarters once more, of a row of one matrix against a column of a block of weights: the shape every tile of the
    projections has. -/
theorem quartersDot {R C : Nat} (x : (⟨2, ![R, 4096]⟩ : Shape).Idx → EReal) (w : (⟨3, ![1, 4096, C]⟩ : Shape).Idx → EReal)
    (r : Fin R) (l : Fin C) :
    (∑ k : Fin 1024, x (ix2 r ⟨k.val, by omega⟩) * w (ix3 0 ⟨k.val, by omega⟩ l))
        + (∑ k : Fin 1024, x (ix2 r ⟨1024 + k.val, by omega⟩) * w (ix3 0 ⟨1024 + k.val, by omega⟩ l))
        + (∑ k : Fin 1024, x (ix2 r ⟨2048 + k.val, by omega⟩) * w (ix3 0 ⟨2048 + k.val, by omega⟩ l))
        + (∑ k : Fin 1024, x (ix2 r ⟨3072 + k.val, by omega⟩) * w (ix3 0 ⟨3072 + k.val, by omega⟩ l))
      = ∑ k : Fin 4096, x (ix2 r k) * w (ix3 0 k l) :=
  quarters4096 fun k => x (ix2 r k) * w (ix3 0 k l)

/-- The same of a contraction over 2048 elements, in quarters of 512. -/
theorem quartersDot2048 {R C : Nat} (x : (⟨2, ![R, 2048]⟩ : Shape).Idx → EReal) (w : (⟨3, ![1, 2048, C]⟩ : Shape).Idx → EReal)
    (r : Fin R) (l : Fin C) :
    (∑ k : Fin 512, x (ix2 r ⟨k.val, by omega⟩) * w (ix3 0 ⟨k.val, by omega⟩ l))
        + (∑ k : Fin 512, x (ix2 r ⟨512 + k.val, by omega⟩) * w (ix3 0 ⟨512 + k.val, by omega⟩ l))
        + (∑ k : Fin 512, x (ix2 r ⟨1024 + k.val, by omega⟩) * w (ix3 0 ⟨1024 + k.val, by omega⟩ l))
        + (∑ k : Fin 512, x (ix2 r ⟨1536 + k.val, by omega⟩) * w (ix3 0 ⟨1536 + k.val, by omega⟩ l))
      = ∑ k : Fin 2048, x (ix2 r k) * w (ix3 0 k l) :=
  quarters (n := 512) rfl fun k => x (ix2 r k) * w (ix3 0 k l)

/-- One element of an RMS norm of a row `v` of 4096 elements under a gain `g`: the mean square is the sum of the squares divided
    by 4096, and the last literal is the reference's small constant. -/
def rms (v : Fin 4096 → EReal) (g : EReal) (j : Fin 4096) : EReal :=
  v j * Ideal.rsqrt (Ideal.div (∑ k : Fin 4096, v k * v k) (Ideal.ofBits FTy.f32 0x45800000#32) + Ideal.ofBits FTy.f32 0x358637BD#32) * g

/-- One tap of the causal convolution as a tile of 1024 rows reads it: row `r` of the eight halo rows `H` followed by the
    tile's rows `U`, moved down by `n`. -/
def tap (n : Nat) (H : Fin 8 → EReal) (U : Fin 1024 → EReal) (r : Fin 1024) : EReal :=
  if h : (8 + r.val + 1032 - n) % 1032 < 8 then H ⟨(8 + r.val + 1032 - n) % 1032, h⟩
  else U ⟨(8 + r.val + 1032 - n) % 1032 - 8, by omega⟩

/-- The same tap as the convolution of the whole array has it: the row `n` before row `i` of its sequence of 8192 rows, and
    zero before the sequence begins. -/
def gtap (n : Nat) (g : Fin 16384 → EReal) (i : Fin 16384) : EReal :=
  if n ≤ i.val % 8192 then g ⟨i.val - n, by omega⟩ else 0

/-- A tile's tap is the array's: the tile holds the array's rows from `a` on, its halo the eight rows before them, or zeros
    where a sequence begins. -/
theorem tap_eq {n : Nat} (hn : n ≤ 8) {H : Fin 8 → EReal} {U : Fin 1024 → EReal} {g : Fin 16384 → EReal} {a : Nat}
    (ha : a % 1024 = 0)
    (hU : ∀ (r : Fin 1024) (i : Fin 16384), i.val = a + r.val → U r = g i)
    (hZ : a % 8192 = 0 → ∀ q, H q = 0)
    (hH : ¬ a % 8192 = 0 → ∀ (q : Fin 8) (i : Fin 16384), i.val + 8 = a + q.val → H q = g i)
    (r : Fin 1024) (i : Fin 16384) (hi : i.val = a + r.val) : tap n H U r = gtap n g i := by
  unfold tap gtap
  by_cases h : (8 + r.val + 1032 - n) % 1032 < 8
  · rw [dif_pos h]
    by_cases z : a % 8192 = 0
    · rw [hZ z, if_neg (by omega)]
    · rw [if_pos (by omega)]
      exact hH z _ _ (by dsimp only; omega)
  · rw [dif_neg h, if_pos (by omega)]
    exact hU _ _ (by dsimp only; omega)

/-- The padding value: the integer zero, converted. -/
theorem sitofp_zero : (FloatOps.sitofp (F := Ideal) .f32 0#32 : EReal) = 0 := by
  show (((0#32 : BitVec 32).toInt : ℝ) : EReal) = 0
  simp

end Cert.Sums
-- ==== Proof.Conv.lean ====
/- The gated causal convolution mixer: what the kernel `_conv_mixer_kernel` leaves in its output array, element by element, and
   that the plain reference computes the same. The grid runs over eight column blocks of 256, and in each over sixteen tiles of
   1024 tokens; the first tile of a column block casts its three blocks of weights into scratch, and the last eight rows of the
   product the convolution runs over are carried to the next tile, or zeros at the start of a sequence. -/
module

public import proofs.«01_k».proof.Defs
public import proofs.«01_k».proof.Proof.Gen.ConvIdeal.Value
public import proofs.«01_k».proof.Proof.Gen.ConvRefIdeal.Read
public import Idealize.ShloMosaic.Lib.Pipeline.ValueKit
public import Idealize.ShloMosaic.Lib.Pipeline.ReadBack
public import Idealize.ShloMosaic.Lib.Pointwise
public import proofs.«01_k».proof.Proof.Sums

@[expose] public section

set_option maxRecDepth 16384
noncomputable section

namespace Cert.ConvIdeal.Sum

open Cert.ConvIdeal Cert.ConvIdeal.Gen Idealize.ShloMosaic Idealize.ShloMosaic.TcCoe Idealize.SL.Sem
open Idealize.ShloMosaic.Pipeline (Dat)

section Cases

variable (c : Dev nD) (i : grid0.Coords)
  (a2 : Memref sig .tc .vmem S1024x4096 .bf16) (h2 : a2.IsWhole) (a3 : Memref sig .tc .vmem S1x4096x256 .f32) (h3 : a3.IsWhole)
  (a4 : Memref sig .tc .vmem S1x4096x256 .f32) (h4 : a4.IsWhole) (a5 : Memref sig .tc .vmem S1x4096x256 .f32) (h5 : a5.IsWhole)
  (a6 : Memref sig .tc .vmem S3x256 .f32) (h6 : a6.IsWhole) (a7 : Memref sig .tc .vmem S1024x256 .bf16) (h7 : a7.IsWhole)
  (a8 : Memref sig .tc .vmem S4096x256 .bf16) (h8 : a8.IsWhole) (a9 : Memref sig .tc .vmem S4096x256 .bf16) (h9 : a9.IsWhole)
  (a10 : Memref sig .tc .vmem S4096x256 .bf16) (h10 : a10.IsWhole) (a11 : Memref sig .tc .vmem S8x256 .f32) (h11 : a11.IsWhole)
  (x0 : Vec Ideal S1024x4096 .bf16) (x1 x2 x3 : Vec Ideal S1x4096x256 .f32) (x4 : Vec Ideal S3x256 .f32)

/-- A row of the tile against a column of a block of weights. -/
abbrev dotB (x : Vec Ideal S1024x4096 .bf16) (w : Vec Ideal S1x4096x256 .f32) (r : Fin 1024) (l : Fin 256) : EReal :=
  ∑ k : Fin 4096, x (ix2 r k) * w (ix3 0 k l)

/-- A row of the tile against a column of the weights kept in scratch. -/
abbrev dotS (x : Vec Ideal S1024x4096 .bf16) (w : Vec Ideal S4096x256 .bf16) (r : Fin 1024) (l : Fin 256) : EReal :=
  ∑ k : Fin 4096, x (ix2 r k) * w (ix2 k l)

/-- What a tile stores, of its three projections and the halo: the gate times the three taps. -/
abbrev mix (H : Fin 8 → EReal) (U b : Fin 1024 → EReal) (k0 k1 k2 : EReal) (r : Fin 1024) : EReal :=
  b r * ((k0 * Sums.tap 2 H U r + k1 * Sums.tap 1 H U r) + k2 * U r)

/-- The first tile of a column block casts that block of weights 0 into scratch. -/
theorem sA0 (hc0 : cond0_0 i) (hc1 : cond0_1 i) (hc2 : ¬cond0_2 i) (y : S4096x256.Idx) :
    sout0_A_0 c i a2 h2 a3 h3 a4 h4 a5 h5 a6 h6 a7 h7 a8 h8 a9 h9 a10 h10 a11 h11 hc0 hc1 hc2 x0 x1 x2 x3 x4 y = x1 (ix3 0 (y 0) (y 1)) := by
  frame_out
  canon_tiles x h
  all_goals
    unfold_payloads
    pointwise
    exact congrArg x1 (by congr 1 <;> apply Fin.ext <;> simp only [h0, h1])

/-- The first tile of a column block casts that block of weights 1 into scratch. -/
theorem sA1 (hc0 : cond0_0 i) (hc1 : cond0_1 i) (hc2 : ¬cond0_2 i) (y : S4096x256.Idx) :
    sout0_A_1 c i a2 h2 a3 h3 a4 h4 a5 h5 a6 h6 a7 h7 a8 h8 a9 h9 a10 h10 a11 h11 hc0 hc1 hc2 x0 x1 x2 x3 x4 y = x2 (ix3 0 (y 0) (y 1)) := by
  frame_out
  canon_tiles x h
  all_goals
    unfold_payloads
    pointwise
    exact congrArg x2 (by congr 1 <;> apply Fin.ext <;> simp only [h0, h1])

/-- The first tile of a column block casts that block of weights 2 into scratch. -/
theorem sA2 (hc0 : cond0_0 i) (hc1 : cond0_1 i) (hc2 : ¬cond0_2 i) (y : S4096x256.Idx) :
    sout0_A_2 c i a2 h2 a3 h3 a4 h4 a5 h5 a6 h6 a7 h7 a8 h8 a9 h9 a10 h10 a11 h11 hc0 hc1 hc2 x0 x1 x2 x3 x4 y = x3 (ix3 0 (y 0) (y 1)) := by
  frame_out
  canon_tiles x h
  all_goals
    unfold_payloads
    pointwise
    exact congrArg x3 (by congr 1 <;> apply Fin.ext <;> simp only [h0, h1])

/-- It leaves the last eight rows of its product as the next tile's halo. -/
theorem sA3 (hc0 : cond0_0 i) (hc1 : cond0_1 i) (hc2 : ¬cond0_2 i) (q : Fin 8) (l : Fin 256) :
    sout0_A_3 c i a2 h2 a3 h3 a4 h4 a5 h5 a6 h6 a7 h7 a8 h8 a9 h9 a10 h10 a11 h11 hc0 hc1 hc2 x0 x1 x2 x3 x4 (ix2 q l) = dotB x0 x3 ⟨1016 + q.val, by omega⟩ l * dotB x0 x1 ⟨1016 + q.val, by omega⟩ l := by
  frame_out
  simp only [View.readCov_cons_toLoadRect]
  unfold_payloads
  pointwise
  exact congrArg₂ (· * ·) (Sums.quartersDot x0 x3 _ _) (Sums.quartersDot x0 x1 _ _)

/-- The last lines of the body, of whatever the projections and the halo are. -/
theorem pay4 (v57 v96 v125 : FVec Ideal S1024x256 .f32) (v132 : Vec Ideal S1024x1024 .bf16) (v133 : Vec Ideal S1024x256 .bf16)
    (v137 : Vec Ideal S8x256 .f32) (v143 v146 v150 : Vec Ideal S1x256 .f32) (l : Fin 256) {H : Fin 8 → EReal} {U b : Fin 1024 → EReal}
    (hU : ∀ r, k0_pay2 v57 v125 v132 v133 (ix2 r l) = U r) (hb : ∀ r, v96 (ix2 r l) = b r) (hH : ∀ q, v137 (ix2 q l) = H q)
    {w0 w1 w2 : EReal} (h0 : v143 (ix2 0 l) = w0) (h1 : v146 (ix2 0 l) = w1) (h2 : v150 (ix2 0 l) = w2) (r : Fin 1024) :
    k0_pay4 v57 v96 v125 v132 v133 v137 v143 v146 v150 (ix2 r l) = mix H U b w0 w1 w2 r := by
  subst h0 h1 h2
  obtain rfl : (fun r => k0_pay2 v57 v125 v132 v133 (ix2 r l)) = U := funext hU
  obtain rfl : (fun r => v96 (ix2 r l)) = b := funext hb
  obtain rfl : (fun q => v137 (ix2 q l)) = H := funext hH
  pointwise [k0_pay4]
  rfl

/-- Its output, over a halo of zeros. -/
theorem oA (hc0 : cond0_0 i) (hc1 : cond0_1 i) (hc2 : ¬cond0_2 i) (r : Fin 1024) (l : Fin 256) :
    out0_A_5 c i a2 h2 a3 h3 a4 h4 a5 h5 a6 h6 a7 h7 a8 h8 a9 h9 a10 h10 a11 h11 hc0 hc1 hc2 x0 x1 x2 x3 x4 (ix2 r l) =
      mix (fun _ => 0) (fun r => dotB x0 x3 r l * dotB x0 x1 r l) (fun r => dotB x0 x2 r l)
      (x4 (ix2 0 l)) (x4 (ix2 1 l)) (x4 (ix2 2 l)) r := by
  frame_out
  simp only [View.readCov_cons_toLoadRect]
  refine pay4 _ _ _ _ _ _ _ _ _ l (fun r => ?_) (fun r => ?_) (fun q => ?_) ?_ ?_ ?_ r
  · unfold_payloads
    pointwise
    exact congrArg₂ (· * ·) (Sums.quartersDot x0 x3 _ _) (Sums.quartersDot x0 x1 _ _)
  · unfold_payloads
    pointwise
    exact Sums.quartersDot x0 x2 _ _
  · unfold_payloads
    pointwise
  all_goals pointwise

/-- A later tile leaves the last eight rows of its product. -/
theorem sB3 (hc0 : ¬cond0_0 i) (hc1 : ¬cond0_1 i) (hc2 : cond0_2 i) (xs0 xs1 xs2 : Vec Ideal S4096x256 .bf16) (xs3 : Vec Ideal S8x256 .f32) (q : Fin 8) (l : Fin 256) :
    sout0_B_3 c i a2 h2 a3 h3 a4 h4 a5 h5 a6 h6 a7 h7 a8 h8 a9 h9 a10 h10 a11 h11 hc0 hc1 hc2 x0 x1 x2 x3 x4 xs0 xs1 xs2 xs3 (ix2 q l) = dotS x0 xs2 ⟨1016 + q.val, by omega⟩ l * dotS x0 xs0 ⟨1016 + q.val, by omega⟩ l := by
  frame_out
  unfold_payloads
  pointwise

/-- Its output, over the halo the tile before left. -/
theorem oB (hc0 : ¬cond0_0 i) (hc1 : ¬cond0_1 i) (hc2 : cond0_2 i) (xs0 xs1 xs2 : Vec Ideal S4096x256 .bf16) (xs3 : Vec Ideal S8x256 .f32) (r : Fin 1024) (l : Fin 256) :
    out0_B_5 c i a2 h2 a3 h3 a4 h4 a5 h5 a6 h6 a7 h7 a8 h8 a9 h9 a10 h10 a11 h11 hc0 hc1 hc2 x0 x1 x2 x3 x4 xs0 xs1 xs2 xs3 (ix2 r l) = mix (fun q => xs3 (ix2 q l)) (fun r => dotS x0 xs2 r l * dotS x0 xs0 r l)
      (fun r => dotS x0 xs1 r l) (x4 (ix2 0 l)) (x4 (ix2 1 l)) (x4 (ix2 2 l)) r := by
  frame_out
  unfold_payloads
  pointwise
  rfl

/-- The first tile of the second sequence leaves the last eight rows of its product. -/
theorem sC3 (hc0 : cond0_0 i) (hc1 : ¬cond0_1 i) (hc2 : cond0_2 i) (xs0 xs1 xs2 : Vec Ideal S4096x256 .bf16) (q : Fin 8) (l : Fin 256) :
    sout0_C_3 c i a2 h2 a3 h3 a4 h4 a5 h5 a6 h6 a7 h7 a8 h8 a9 h9 a10 h10 a11 h11 hc0 hc1 hc2 x0 x1 x2 x3 x4 xs0 xs1 xs2 (ix2 q l) = dotS x0 xs2 ⟨1016 + q.val, by omega⟩ l * dotS x0 xs0 ⟨1016 + q.val, by omega⟩ l := by
  frame_out
  unfold_payloads
  pointwise

/-- Its output, over a halo of zeros. -/
theorem oC (hc0 : cond0_0 i) (hc1 : ¬cond0_1 i) (hc2 : cond0_2 i) (xs0 xs1 xs2 : Vec Ideal S4096x256 .bf16) (r : Fin 1024) (l : Fin 256) :
    out0_C_5 c i a2 h2 a3 h3 a4 h4 a5 h5 a6 h6 a7 h7 a8 h8 a9 h9 a10 h10 a11 h11 hc0 hc1 hc2 x0 x1 x2 x3 x4 xs0 xs1 xs2 (ix2 r l) = mix (fun _ => 0) (fun r => dotS x0 xs2 r l * dotS x0 xs0 r l)
      (fun r => dotS x0 xs1 r l) (x4 (ix2 0 l)) (x4 (ix2 1 l)) (x4 (ix2 2 l)) r := by
  frame_out
  unfold_payloads
  pointwise
  rfl

end Cases

variable (m : (ℓ : Loc nD τ sig) → Buf (Elt Ideal) ℓ)

/-- Which blocks a grid point reads: the token tile `t % 16`, and of every weight the column block `t / 16` of its section. -/
theorem idx : ∀ t : Fin cfg0.N, win0_0.index t = ![t.val % 16, 0] ∧ win0_1.index t = ![0, 0, t.val / 16]
      ∧ win0_2.index t = ![0, 0, 8 + t.val / 16] ∧ win0_3.index t = ![0, 0, 16 + t.val / 16] ∧ win0_4.index t = ![0, t.val / 16] :=
  (by decide +kernel : ∀ t : Fin grid0.N, win0_0.index t = ![t.val % 16, 0] ∧ win0_1.index t = ![0, 0, t.val / 16]
      ∧ win0_2.index t = ![0, 0, 8 + t.val / 16] ∧ win0_3.index t = ![0, 0, 16 + t.val / 16] ∧ win0_4.index t = ![0, t.val / 16])

/-- The activations, as an array of numbers. -/
abbrev X (c : Dev nD) : FVec Ideal S16384x4096 .bf16 := m ((c : Thread nD τ).loc main_arg0)
/-- The in-projection's weights. -/
abbrev W (c : Dev nD) : FVec Ideal S2x4096x20480 .f32 := m ((c : Thread nD τ).loc main_arg1)
/-- The convolution's weights. -/
abbrev K (c : Dev nD) : FVec Ideal S3x2048 .f32 := m ((c : Thread nD τ).loc main_arg2)

/-- The tile of rows a point reads. -/
theorem iblk0 (c : Dev nD) (t : Fin cfg0.N) (r : Fin 1024) (k : Fin 4096) (i : Fin 16384) (hi : i.val = t.val % 16 * 1024 + r.val) :
    (iblk m c 0 t : FVec Ideal S1024x4096 .bf16) (ix2 r k) = X m c (ix2 i k) := by
  obtain ⟨e0, e1, e2, e3, e4⟩ := idx t
  blk_ext [iblk, V, e0]

/-- The block of the first section's weights. -/
theorem iblk1 (c : Dev nD) (t : Fin cfg0.N) (k : Fin 4096) (l : Fin 256) (j : Fin 20480) (hj : j.val = t.val / 16 * 256 + l.val) :
    (iblk m c 1 t : FVec Ideal S1x4096x256 .f32) (ix3 0 k l) = W m c (ix3 0 k j) := by
  obtain ⟨e0, e1, e2, e3, e4⟩ := idx t
  blk_ext [iblk, V, e1]

/-- Of the second section's. -/
theorem iblk2 (c : Dev nD) (t : Fin cfg0.N) (k : Fin 4096) (l : Fin 256) (j : Fin 20480) (hj : j.val = 2048 + (t.val / 16 * 256 + l.val)) :
    (iblk m c 2 t : FVec Ideal S1x4096x256 .f32) (ix3 0 k l) = W m c (ix3 0 k j) := by
  obtain ⟨e0, e1, e2, e3, e4⟩ := idx t
  blk_ext [iblk, V, e2]

/-- Of the third's. -/
theorem iblk3 (c : Dev nD) (t : Fin cfg0.N) (k : Fin 4096) (l : Fin 256) (j : Fin 20480) (hj : j.val = 4096 + (t.val / 16 * 256 + l.val)) :
    (iblk m c 3 t : FVec Ideal S1x4096x256 .f32) (ix3 0 k l) = W m c (ix3 0 k j) := by
  obtain ⟨e0, e1, e2, e3, e4⟩ := idx t
  blk_ext [iblk, V, e3]

/-- The block of the convolution's weights. -/
theorem iblk4 (c : Dev nD) (t : Fin cfg0.N) (q : Fin 3) (l : Fin 256) (j : Fin 2048) (hj : j.val = t.val / 16 * 256 + l.val) :
    (iblk m c 4 t : FVec Ideal S3x256 .f32) (ix2 q l) = K m c (ix2 q j) := by
  obtain ⟨e0, e1, e2, e3, e4⟩ := idx t
  blk_ext [iblk, V, e4]

/-- One element of the in-projection: row `i`, column `j` of the section that begins at column `o`. -/
def D (x : FVec Ideal S16384x4096 .bf16) (w : FVec Ideal S2x4096x20480 .f32) (o : Nat) (ho : o ≤ 18432) (i : Fin 16384) (j : Fin 2048) : EReal :=
  ∑ k : Fin 4096, x (ix2 i k) * w (ix3 0 k ⟨o + j.val, by omega⟩)

/-- What the convolution runs over: the gate `c` times the input. -/
def P (x : FVec Ideal S16384x4096 .bf16) (w : FVec Ideal S2x4096x20480 .f32) (j : Fin 2048) (i : Fin 16384) : EReal :=
  D x w 4096 (by omega) i j * D x w 0 (by omega) i j

/-- The mixer's value at row `i`, column `j`. -/
def Out (x : FVec Ideal S16384x4096 .bf16) (w : FVec Ideal S2x4096x20480 .f32) (k : FVec Ideal S3x2048 .f32) (i : Fin 16384) (j : Fin 2048) : EReal :=
  D x w 2048 (by omega) i j * ((k (ix2 0 j) * Sums.gtap 2 (P x w j) i + k (ix2 1 j) * Sums.gtap 1 (P x w j) i) + k (ix2 2 j) * P x w j i)

/-- A point's contraction over a block of weights is the array's, when the block is the array's columns. -/
theorem dotB_eq (c : Dev nD) (o : Nat) (ho : o ≤ 18432) (t : Fin cfg0.N) (w : Vec Ideal S1x4096x256 .f32) (l : Fin 256) (j : Fin 2048)
    (hw : ∀ k, w (ix3 0 k l) = W m c (ix3 0 k ⟨o + j.val, by omega⟩)) (r : Fin 1024) (i : Fin 16384)
    (hi : i.val = t.val % 16 * 1024 + r.val) : dotB (iblk m c 0 t) w r l = D (X m c) (W m c) o ho i j :=
  Finset.sum_congr rfl fun k _ => congrArg₂ (· * ·) (iblk0 m c t r k i hi) (hw k)

/-- And over the weights in scratch. -/
theorem dotS_eq (c : Dev nD) (o : Nat) (ho : o ≤ 18432) (t : Fin cfg0.N) (w : Vec Ideal S4096x256 .bf16) (l : Fin 256) (j : Fin 2048)
    (hw : ∀ k, w (ix2 k l) = W m c (ix3 0 k ⟨o + j.val, by omega⟩)) (r : Fin 1024) (i : Fin 16384)
    (hi : i.val = t.val % 16 * 1024 + r.val) : dotS (iblk m c 0 t) w r l = D (X m c) (W m c) o ho i j :=
  Finset.sum_congr rfl fun k _ => congrArg₂ (· * ·) (iblk0 m c t r k i hi) (hw k)

/-- A tile's formula is the array's, when its rows, its gate, its halo and its taps' weights are the array's. -/
theorem mix_eq (c : Dev nD) (j : Fin 2048) (t : Fin cfg0.N) {H : Fin 8 → EReal} {U b : Fin 1024 → EReal} {w0 w1 w2 : EReal}
    (hU : ∀ (r : Fin 1024) (i : Fin 16384), i.val = t.val % 16 * 1024 + r.val → U r = P (X m c) (W m c) j i)
    (hb : ∀ (r : Fin 1024) (i : Fin 16384), i.val = t.val % 16 * 1024 + r.val → b r = D (X m c) (W m c) 2048 (by omega) i j)
    (hZ : t.val % 8 = 0 → ∀ q, H q = 0)
    (hH : ¬ t.val % 8 = 0 → ∀ (q : Fin 8) (i : Fin 16384), i.val + 8 = t.val % 16 * 1024 + q.val → H q = P (X m c) (W m c) j i)
    (h0 : w0 = K m c (ix2 0 j)) (h1 : w1 = K m c (ix2 1 j)) (h2 : w2 = K m c (ix2 2 j))
    (r : Fin 1024) (i : Fin 16384) (hi : i.val = t.val % 16 * 1024 + r.val) : mix H U b w0 w1 w2 r = Out (X m c) (W m c) (K m c) i j := by
  have tap (n : Nat) (hn : n ≤ 8) : Sums.tap n H U r = Sums.gtap n (P (X m c) (W m c) j) i :=
    Sums.tap_eq hn (by omega) hU (fun h => hZ (by omega)) (fun h => hH (by omega)) r i hi
  unfold mix Out
  rw [tap 2 (by omega), tap 1 (by omega), hU r i hi, hb r i hi, h0, h1, h2]

/-- What the three weight scratches hold after a point: the casts of its column block of their sections. -/
theorem scr (c : Dev nD) (k : Fin 4096) (l : Fin 256) : ∀ (n : Nat) (t : Fin cfg0.N) (j : Fin 2048), n = t.val % 16 →
    j.val = t.val / 16 * 256 + l.val →
    (outsAt0 m c t.val t.isLt).2.1 (ix2 k l) = W m c (ix3 0 k ⟨0 + j.val, by omega⟩)
      ∧ (outsAt0 m c t.val t.isLt).2.2.1 (ix2 k l) = W m c (ix3 0 k ⟨2048 + j.val, by omega⟩)
      ∧ (outsAt0 m c t.val t.isLt).2.2.2.1 (ix2 k l) = W m c (ix3 0 k ⟨4096 + j.val, by omega⟩) := by
  intro n
  induction n with
  | zero =>
    intro t j ht hj
    rw [outsAt0_A m c t (by omega) ht.symm (by omega)]
    dsimp only
    rw [sA0, sA1, sA2]
    exact ⟨iblk1 m c t k l _ (by dsimp only; omega), iblk2 m c t k l _ (by dsimp only; omega), iblk3 m c t k l _ (by dsimp only; omega)⟩
  | succ n ih =>
    intro t j ht hj
    have prev := ih ⟨t.val - 1, Nat.lt_of_le_of_lt (Nat.sub_le _ _) t.isLt⟩ j (by dsimp only; omega) (by dsimp only; omega)
    by_cases h : t.val % 8 = 0
    · rw [outsAt0_C m c t h (by omega) (by omega)]
      dsimp only
      unfold sout0_C_0 sout0_C_1 sout0_C_2
      exact prev
    · rw [outsAt0_B m c t h (by omega) (by omega)]
      dsimp only
      unfold sout0_B_0 sout0_B_1 sout0_B_2
      exact prev

/-- What the halo holds after a point: the last eight rows of the product over its tile. -/
theorem halo (c : Dev nD) (t : Fin cfg0.N) (q : Fin 8) (l : Fin 256) (i : Fin 16384) (j : Fin 2048)
    (hi : i.val = t.val % 16 * 1024 + (1016 + q.val)) (hj : j.val = t.val / 16 * 256 + l.val) :
    (outsAt0 m c t.val t.isLt).2.2.2.2 (ix2 q l) = P (X m c) (W m c) j i := by
  unfold P
  by_cases h1 : t.val % 16 = 0
  · rw [outsAt0_A m c t (by omega) h1 (by omega)]
    dsimp only
    rw [sA3]
    exact congrArg₂ (· * ·) (dotB_eq m c _ _ t _ l j (fun k => iblk3 m c t k l _ (by dsimp only; omega)) _ i hi)
      (dotB_eq m c _ _ t _ l j (fun k => iblk1 m c t k l _ (by dsimp only; omega)) _ i hi)
  · have prev (k : Fin 4096) := scr m c k l _ ⟨t.val - 1, Nat.lt_of_le_of_lt (Nat.sub_le _ _) t.isLt⟩ j rfl (by dsimp only; omega)
    by_cases h : t.val % 8 = 0
    · rw [outsAt0_C m c t h h1 (by omega)]
      dsimp only
      rw [sC3]
      exact congrArg₂ (· * ·) (dotS_eq m c _ _ t _ l j (fun k => (prev k).2.2) _ i hi) (dotS_eq m c _ _ t _ l j (fun k => (prev k).1) _ i hi)
    · rw [outsAt0_B m c t h h1 (by omega)]
      dsimp only
      rw [sB3]
      exact congrArg₂ (· * ·) (dotS_eq m c _ _ t _ l j (fun k => (prev k).2.2) _ i hi) (dotS_eq m c _ _ t _ l j (fun k => (prev k).1) _ i hi)

/-- What a point stores in its output block: the mixer's value at the block's rows and columns. -/
theorem out (c : Dev nD) (t : Fin cfg0.N) (r : Fin 1024) (l : Fin 256) (i : Fin 16384) (j : Fin 2048)
    (hi : i.val = t.val % 16 * 1024 + r.val) (hj : j.val = t.val / 16 * 256 + l.val) :
    (outsAt0 m c t.val t.isLt).1 (ix2 r l) = Out (X m c) (W m c) (K m c) i j := by
  have hk (q : Fin 3) := iblk4 m c t q l j hj
  by_cases h1 : t.val % 16 = 0
  · rw [outsAt0_A m c t (by omega) h1 (by omega)]
    dsimp only
    rw [oA]
    exact mix_eq m c j t (fun r i hi => congrArg₂ (· * ·)
        (dotB_eq m c _ _ t _ l j (fun k => iblk3 m c t k l _ (by dsimp only; omega)) r i hi)
        (dotB_eq m c _ _ t _ l j (fun k => iblk1 m c t k l _ (by dsimp only; omega)) r i hi))
      (dotB_eq m c _ _ t _ l j (fun k => iblk2 m c t k l _ (by dsimp only; omega)))
      (fun _ _ => rfl) (fun h => absurd (by omega) h) (hk 0) (hk 1) (hk 2) r i hi
  · have prev (k : Fin 4096) := scr m c k l _ ⟨t.val - 1, Nat.lt_of_le_of_lt (Nat.sub_le _ _) t.isLt⟩ j rfl (by dsimp only; omega)
    have hU (r : Fin 1024) (i : Fin 16384) (hi : i.val = t.val % 16 * 1024 + r.val) := congrArg₂ (· * ·)
      (dotS_eq m c _ (by omega) t _ l j (fun k => (prev k).2.2) r i hi) (dotS_eq m c _ (by omega) t _ l j (fun k => (prev k).1) r i hi)
    by_cases h : t.val % 8 = 0
    · rw [outsAt0_C m c t h h1 (by omega)]
      dsimp only
      rw [oC]
      exact mix_eq m c j t hU (dotS_eq m c _ _ t _ l j (fun k => (prev k).2.1))
        (fun _ _ => rfl) (fun h' => absurd h h') (hk 0) (hk 1) (hk 2) r i hi
    · rw [outsAt0_B m c t h h1 (by omega)]
      dsimp only
      rw [oB]
      exact mix_eq m c j t hU (dotS_eq m c _ _ t _ l j (fun k => (prev k).2.1)) (fun h' => absurd h' h)
        (fun _ q i' hi' => halo m c ⟨t.val - 1, Nat.lt_of_le_of_lt (Nat.sub_le _ _) t.isLt⟩ q l i' j (by dsimp only; omega) (by dsimp only; omega))
        (hk 0) (hk 1) (hk 2) r i hi

/-- What the kernel leaves in its output array, element by element. -/
theorem G (c : Dev nD) (i : S16384x2048.Idx) : (Value.G5 m c : FVec Ideal S16384x2048 .bf16) i = Out (X m c) (W m c) (K m c) (i 0) (i 1) := by
  idx_vars i
  have hN : cfg0.N = 128 := N_0
  have hp : Value.pt5Of (ix2 i0 i1) < cfg0.N := by
    rw [hN]; show 1 * (i0.val / 1024 - 0) + 16 * (i1.val / 256 - 0) < 128; omega
  unfold Value.G5
  rw [dif_pos hp, ← Value.outsAt0_sweep m c _ hp]
  have e : Value.loc5Of (ix2 i0 i1) = ix2 ⟨i0.val % 1024, by omega⟩ ⟨i1.val % 256, by omega⟩ := eq_ix2 _
  rw [e]
  refine out m c ⟨_, hp⟩ _ _ i0 i1 ?_ ?_
  · show i0.val = (1 * (i0.val / 1024 - 0) + 16 * (i1.val / 256 - 0)) % 16 * 1024 + i0.val % 1024
    omega
  · show i1.val = (1 * (i0.val / 1024 - 0) + 16 * (i1.val / 256 - 0)) / 16 * 256 + i1.val % 256
    omega

section Reference

open Cert.ConvRefIdeal.Read

variable (x : FVec Ideal S16384x4096 .bf16) (w : FVec Ideal S2x4096x20480 .f32) (k : FVec Ideal S3x2048 .f32)

/-- The reference's product, which it convolves. -/
theorem ref8 (b : Fin 2) (s : Fin 8192) (j : Fin 2048) (i : Fin 16384) (hi : i.val = b.val * 8192 + s.val) :
    (val_main_v8 (F := Ideal) x w : FVec Ideal Cert.ConvRefIdeal.S2x8192x2048 .f32) (ix3 b s j) = P x w j i := by
  have e : i = ⟨b.val * 8192 + s.val, by omega⟩ := Fin.ext hi
  rw [e]
  pointwise [val_main_v8, val_main_v7, val_main_v5, val_main_v4, val_main_v3, val_main_v2, val_main_v1, val_main_v0]
  unfold P D
  simp only [Nat.zero_add]

/-- The product, padded: the tap. -/
theorem ref9 (b : Fin 2) (s : Fin 8194) (j : Fin 2048) (i : Fin 16384) (n : Nat) (hb : b.val = i.val / 8192) (hs : s.val + n = 2 + i.val % 8192) :
    (val_main_v9 (F := Ideal) x w : FVec Ideal Cert.ConvRefIdeal.S2x8194x2048 .f32) (ix3 b s j) = Sums.gtap n (P x w j) i := by
  pointwise [val_main_v9, val_main_call0_v0, val_main_c]
  unfold Sums.gtap
  by_cases h : n ≤ i.val % 8192
  · rw [if_pos h, dif_pos ⟨by omega, by omega⟩]
    exact ref8 x w b _ j _ (by dsimp only; omega)
  · rw [if_neg h, dif_neg (by omega), Sums.sitofp_zero]

/-- The reference's result, element by element: the same value. -/
theorem ref (i : S16384x2048.Idx) :
    (val_main_v34 (F := Ideal) x w k : FVec Ideal S16384x2048 .bf16) i = Out x w k (i 0) (i 1) := by
  idx_vars i
  pointwise [val_main_v34, val_main_v33, val_main_v32, val_main_v31, val_main_v30, val_main_v29, val_main_v28, val_main_v27,
    val_main_v26, val_main_v25, val_main_v24, val_main_v23, val_main_v22, val_main_v21, val_main_v20, val_main_v19, val_main_v18,
    val_main_v17, val_main_v16, val_main_v15, val_main_v14, val_main_v13, val_main_v12, val_main_v11, val_main_v10,
    val_main_v6, val_main_v4, val_main_v3, val_main_v2, val_main_v1, val_main_v0, val_main_cst]
  rw [ref9 x w _ _ i1 i0 2 rfl (Nat.add_comm _ _), ref9 x w _ _ i1 i0 1 rfl (by dsimp only; omega),
    ref9 x w _ _ i1 i0 0 rfl rfl]
  rfl

end Reference

/-- The kernel over the reals computes what the reference computes. -/
theorem algebraic : algebraic_ConvIdeal_ConvRefIdeal := by
  intro m ρ m' ρ' _ hagree
  refine ⟨_, Value.run (F := Ideal) m ρ, ?_⟩
  refine (θ_run Cert.ConvRefIdeal.defs _ _).mono (fun _ h c => ⟨?_, (h c).2⟩) (Cert.ConvRefIdeal.Value.run (F := Ideal) m' ρ')
  rw [(h c).1, Cert.ConvRefIdeal.Read.val_main_v34_eq]
  simp only [hagree c]
  funext i
  exact (ref (X m c) (W m c) (K m c) i).trans (G m c i).symm

end Cert.ConvIdeal.Sum
-- ==== Proof.FfnIn.lean ====
/- The ConvFFN's first half: what the kernel `_ffn_in_kernel` leaves in its output array, element by element, and that the
   plain reference computes the same. The grid runs over 43 column blocks of 256, and in each over sixteen tiles of 1024
   tokens; the first tile of a column block casts its two blocks of weights into scratch, and the last eight rows of the gate
   projection are carried to the next tile, or zeros at the start of a sequence. -/
module

public import proofs.«01_k».proof.Defs
public import proofs.«01_k».proof.Proof.Gen.FfnInIdeal.Value
public import proofs.«01_k».proof.Proof.Gen.FfnInRefIdeal.Read
public import Idealize.ShloMosaic.Lib.Pipeline.ValueKit
public import Idealize.ShloMosaic.Lib.Pipeline.ReadBack
public import Idealize.ShloMosaic.Lib.Pointwise
public import proofs.«01_k».proof.Proof.Sums

@[expose] public section

set_option maxRecDepth 16384
noncomputable section

namespace Cert.FfnInIdeal.Sum

open Cert.FfnInIdeal Cert.FfnInIdeal.Gen Idealize.ShloMosaic Idealize.ShloMosaic.TcCoe Idealize.SL.Sem

section Cases

variable (c : Dev nD) (i : grid0.Coords)
  (a2 : Memref sig .tc .vmem S1024x4096 .bf16) (h2 : a2.IsWhole) (a3 : Memref sig .tc .vmem S1x4096x256 .f32) (h3 : a3.IsWhole)
  (a4 : Memref sig .tc .vmem S1x4096x256 .f32) (h4 : a4.IsWhole) (a5 : Memref sig .tc .vmem S3x256 .f32) (h5 : a5.IsWhole)
  (a6 : Memref sig .tc .vmem S1024x256 .bf16) (h6 : a6.IsWhole) (a7 : Memref sig .tc .vmem S4096x256 .bf16) (h7 : a7.IsWhole)
  (a8 : Memref sig .tc .vmem S4096x256 .bf16) (h8 : a8.IsWhole) (a9 : Memref sig .tc .vmem S8x256 .f32) (h9 : a9.IsWhole)
  (x0 : Vec Ideal S1024x4096 .bf16) (x1 x2 : Vec Ideal S1x4096x256 .f32) (x3 : Vec Ideal S3x256 .f32)

/-- A row of the tile against a column of a block of weights. -/
abbrev dotB (x : Vec Ideal S1024x4096 .bf16) (w : Vec Ideal S1x4096x256 .f32) (r : Fin 1024) (l : Fin 256) : EReal :=
  ∑ k : Fin 4096, x (ix2 r k) * w (ix3 0 k l)

/-- A row of the tile against a column of the weights kept in scratch. -/
abbrev dotS (x : Vec Ideal S1024x4096 .bf16) (w : Vec Ideal S4096x256 .bf16) (r : Fin 1024) (l : Fin 256) : EReal :=
  ∑ k : Fin 4096, x (ix2 r k) * w (ix2 k l)

/-- The tanh form of GELU, with the constants the kernel and the reference both carry. -/
def gelu (z : EReal) : EReal :=
  Ideal.ofBits .f32 0x3F000000#32 * z
    * (1 + Ideal.tanh (Ideal.ofBits .f32 0x3F4C422A#32 * (z + Ideal.ofBits .f32 0x3D372713#32 * (z * z * z))))

/-- What a tile stores, of its two projections and the halo: GELU of the three taps of the gate, times the up projection. -/
abbrev mix (H : Fin 8 → EReal) (U b : Fin 1024 → EReal) (k0 k1 k2 : EReal) (r : Fin 1024) : EReal :=
  gelu ((k0 * Sums.tap 2 H U r + k1 * Sums.tap 1 H U r) + k2 * U r) * b r

/-- The first tile of a column block casts that block of weights 0 into scratch. -/
theorem sA0 (hc0 : cond0_0 i) (hc1 : cond0_1 i) (hc2 : ¬cond0_2 i) (y : S4096x256.Idx) :
    sout0_A_0 c i a2 h2 a3 h3 a4 h4 a5 h5 a6 h6 a7 h7 a8 h8 a9 h9 hc0 hc1 hc2 x0 x1 x2 x3 y = x1 (ix3 0 (y 0) (y 1)) := by
  frame_out
  canon_tiles x h
  all_goals
    unfold_payloads
    pointwise
    exact congrArg x1 (by congr 1 <;> apply Fin.ext <;> simp only [h0, h1])

/-- The first tile of a column block casts that block of weights 1 into scratch. -/
theorem sA1 (hc0 : cond0_0 i) (hc1 : cond0_1 i) (hc2 : ¬cond0_2 i) (y : S4096x256.Idx) :
    sout0_A_1 c i a2 h2 a3 h3 a4 h4 a5 h5 a6 h6 a7 h7 a8 h8 a9 h9 hc0 hc1 hc2 x0 x1 x2 x3 y = x2 (ix3 0 (y 0) (y 1)) := by
  frame_out
  canon_tiles x h
  all_goals
    unfold_payloads
    pointwise
    exact congrArg x2 (by congr 1 <;> apply Fin.ext <;> simp only [h0, h1])

/-- It leaves the last eight rows of its gate projection as the next tile's halo. -/
theorem sA2 (hc0 : cond0_0 i) (hc1 : cond0_1 i) (hc2 : ¬cond0_2 i) (q : Fin 8) (l : Fin 256) :
    sout0_A_2 c i a2 h2 a3 h3 a4 h4 a5 h5 a6 h6 a7 h7 a8 h8 a9 h9 hc0 hc1 hc2 x0 x1 x2 x3 (ix2 q l) = dotB x0 x1 ⟨1016 + q.val, by omega⟩ l := by
  frame_out
  simp only [View.readCov_cons_toLoadRect]
  unfold_payloads
  pointwise
  exact Sums.quartersDot x0 x1 _ _

/-- The last lines of the first tile's body, of whatever the projections and the halo are. -/
theorem pay3 (v57 v96 : FVec Ideal S1024x256 .f32) (v97 : Vec Ideal S8x256 .f32) (v103 v106 v110 : Vec Ideal S1x256 .f32) (l : Fin 256)
    {H : Fin 8 → EReal} {U b : Fin 1024 → EReal} {w0 w1 w2 : EReal}
    (hU : ∀ r, v57 (ix2 r l) = U r) (hb : ∀ r, v96 (ix2 r l) = b r) (hH : ∀ q, v97 (ix2 q l) = H q)
    (h0 : v103 (ix2 0 l) = w0) (h1 : v106 (ix2 0 l) = w1) (h2 : v110 (ix2 0 l) = w2) (r : Fin 1024) :
    k0_pay3 v57 v96 (k0_pay18 v57 v97) (k0_pay19 v57 v97) (k0_pay20 v103) v106 v110 (ix2 r l) = mix H U b w0 w1 w2 r := by
  subst h0 h1 h2
  obtain rfl : (fun r => v57 (ix2 r l)) = U := funext hU
  obtain rfl : (fun r => v96 (ix2 r l)) = b := funext hb
  obtain rfl : (fun q => v97 (ix2 q l)) = H := funext hH
  have e1 : k0_pay18 v57 v97 (ix2 r l) = Sums.tap 1 (fun q => v97 (ix2 q l)) (fun r => v57 (ix2 r l)) r := by
    pointwise [k0_pay18, k0_pay17]
    rfl
  have e2 : k0_pay19 v57 v97 (ix2 r l) = Sums.tap 2 (fun q => v97 (ix2 q l)) (fun r => v57 (ix2 r l)) r := by
    pointwise [k0_pay19, k0_pay17]
    rfl
  pointwise [k0_pay3, k0_pay20]
  rw [e1, e2]
  rfl

/-- The last lines of a later tile's body, of whatever the gate, the up projection and the halo are. -/
theorem pay4 (v24 : FVec Ideal S1024x256 .f32) (x : Vec Ideal S1024x4096 .bf16) (w : Vec Ideal S4096x256 .bf16)
    (v25 : Vec Ideal S8x256 .f32) (v31 v34 v38 : Vec Ideal S1x256 .f32) (l : Fin 256)
    {H : Fin 8 → EReal} {U b : Fin 1024 → EReal} {w0 w1 w2 : EReal}
    (hU : ∀ r, k0_pay21 x w (ix2 r l) = U r) (hb : ∀ r, v24 (ix2 r l) = b r) (hH : ∀ q, v25 (ix2 q l) = H q)
    (h0 : v31 (ix2 0 l) = w0) (h1 : v34 (ix2 0 l) = w1) (h2 : v38 (ix2 0 l) = w2) (r : Fin 1024) :
    k0_pay4 v24 (k0_pay25 x w v25 v31 v34 v38) (k0_pay26 x w v25 v31 v34 v38) (Scalar.ofBits (F := Ideal) .f32 0x3F4C422A#32) (ix2 r l)
      = mix H U b w0 w1 w2 r := by
  subst h0 h1 h2
  obtain rfl : (fun r => k0_pay21 x w (ix2 r l)) = U := funext hU
  obtain rfl : (fun r => v24 (ix2 r l)) = b := funext hb
  obtain rfl : (fun q => v25 (ix2 q l)) = H := funext hH
  have e : k0_pay23 x w v25 v31 v34 v38 (ix2 r l) = (v31 (ix2 0 l) * Sums.tap 2 (fun q => v25 (ix2 q l)) (fun r => k0_pay21 x w (ix2 r l)) r
      + v34 (ix2 0 l) * Sums.tap 1 (fun q => v25 (ix2 q l)) (fun r => k0_pay21 x w (ix2 r l)) r) + v38 (ix2 0 l) * k0_pay21 x w (ix2 r l) := by
    pointwise [k0_pay23]
    rfl
  pointwise [k0_pay4, k0_pay25, k0_pay26]
  rw [e]
  rfl

/-- The first tile's output, over a halo of zeros. -/
theorem oA (hc0 : cond0_0 i) (hc1 : cond0_1 i) (hc2 : ¬cond0_2 i) (r : Fin 1024) (l : Fin 256) :
    out0_A_4 c i a2 h2 a3 h3 a4 h4 a5 h5 a6 h6 a7 h7 a8 h8 a9 h9 hc0 hc1 hc2 x0 x1 x2 x3 (ix2 r l) = mix (fun _ => 0) (fun r => dotB x0 x1 r l) (fun r => dotB x0 x2 r l)
      (x3 (ix2 0 l)) (x3 (ix2 1 l)) (x3 (ix2 2 l)) r := by
  frame_out
  simp only [View.readCov_cons_toLoadRect]
  refine pay3 _ _ _ _ _ _ l (fun r => ?_) (fun r => ?_) (fun q => ?_) ?_ ?_ ?_ r
  · unfold_payloads
    pointwise
    exact Sums.quartersDot x0 x1 _ _
  · unfold_payloads
    pointwise
    exact Sums.quartersDot x0 x2 _ _
  · unfold_payloads
    pointwise
  all_goals pointwise

/-- A later tile leaves the last eight rows of its gate projection. -/
theorem sB2 (hc0 : ¬cond0_0 i) (hc1 : ¬cond0_1 i) (hc2 : cond0_2 i) (xs0 xs1 : Vec Ideal S4096x256 .bf16) (xs2 : Vec Ideal S8x256 .f32) (q : Fin 8) (l : Fin 256) :
    sout0_B_2 c i a2 h2 a3 h3 a4 h4 a5 h5 a6 h6 a7 h7 a8 h8 a9 h9 hc0 hc1 hc2 x0 x1 x2 x3 xs0 xs1 xs2 (ix2 q l) = dotS x0 xs0 ⟨1016 + q.val, by omega⟩ l := by
  frame_out
  unfold_payloads
  pointwise

/-- Its output, over the halo the tile before left. -/
theorem oB (hc0 : ¬cond0_0 i) (hc1 : ¬cond0_1 i) (hc2 : cond0_2 i) (xs0 xs1 : Vec Ideal S4096x256 .bf16) (xs2 : Vec Ideal S8x256 .f32) (r : Fin 1024) (l : Fin 256) :
    out0_B_4 c i a2 h2 a3 h3 a4 h4 a5 h5 a6 h6 a7 h7 a8 h8 a9 h9 hc0 hc1 hc2 x0 x1 x2 x3 xs0 xs1 xs2 (ix2 r l) = mix (fun q => xs2 (ix2 q l)) (fun r => dotS x0 xs0 r l)
      (fun r => dotS x0 xs1 r l) (x3 (ix2 0 l)) (x3 (ix2 1 l)) (x3 (ix2 2 l)) r := by
  frame_out
  refine pay4 _ _ _ _ _ _ _ l (fun r => ?_) (fun r => ?_) (fun q => ?_) ?_ ?_ ?_ r
  all_goals
    unfold_payloads
    pointwise

/-- The first tile of the second sequence leaves the last eight rows of its gate projection. -/
theorem sC2 (hc0 : cond0_0 i) (hc1 : ¬cond0_1 i) (hc2 : cond0_2 i) (xs0 xs1 : Vec Ideal S4096x256 .bf16) (q : Fin 8) (l : Fin 256) :
    sout0_C_2 c i a2 h2 a3 h3 a4 h4 a5 h5 a6 h6 a7 h7 a8 h8 a9 h9 hc0 hc1 hc2 x0 x1 x2 x3 xs0 xs1 (ix2 q l) = dotS x0 xs0 ⟨1016 + q.val, by omega⟩ l := by
  frame_out
  unfold_payloads
  pointwise

/-- Its output, over a halo of zeros. -/
theorem oC (hc0 : cond0_0 i) (hc1 : ¬cond0_1 i) (hc2 : cond0_2 i) (xs0 xs1 : Vec Ideal S4096x256 .bf16) (r : Fin 1024) (l : Fin 256) :
    out0_C_4 c i a2 h2 a3 h3 a4 h4 a5 h5 a6 h6 a7 h7 a8 h8 a9 h9 hc0 hc1 hc2 x0 x1 x2 x3 xs0 xs1 (ix2 r l) = mix (fun _ => 0) (fun r => dotS x0 xs0 r l)
      (fun r => dotS x0 xs1 r l) (x3 (ix2 0 l)) (x3 (ix2 1 l)) (x3 (ix2 2 l)) r := by
  frame_out
  refine pay4 _ _ _ _ _ _ _ l (fun r => ?_) (fun r => ?_) (fun q => ?_) ?_ ?_ ?_ r
  all_goals
    unfold_payloads
    pointwise

end Cases

variable (m : (ℓ : Loc nD τ sig) → Buf (Elt Ideal) ℓ)

/-- Which blocks a grid point reads: the token tile `t % 16`, and of every weight the column block `t / 16` of its section. -/
theorem idx : ∀ t : Fin cfg0.N, win0_0.index t = ![t.val % 16, 0] ∧ win0_1.index t = ![0, 0, t.val / 16]
      ∧ win0_2.index t = ![0, 0, 43 + t.val / 16] ∧ win0_3.index t = ![0, t.val / 16] :=
  (by decide +kernel : ∀ t : Fin grid0.N, win0_0.index t = ![t.val % 16, 0] ∧ win0_1.index t = ![0, 0, t.val / 16]
      ∧ win0_2.index t = ![0, 0, 43 + t.val / 16] ∧ win0_3.index t = ![0, t.val / 16])

/-- The activations, as an array of numbers. -/
abbrev X (c : Dev nD) : FVec Ideal S16384x4096 .bf16 := m ((c : Thread nD τ).loc main_arg0)
/-- The projection's weights. -/
abbrev W (c : Dev nD) : FVec Ideal S2x4096x22016 .f32 := m ((c : Thread nD τ).loc main_arg1)
/-- The convolution's weights. -/
abbrev K (c : Dev nD) : FVec Ideal S3x11008 .f32 := m ((c : Thread nD τ).loc main_arg2)

/-- The tile of activations a point reads. -/
theorem iblk0 (c : Dev nD) (t : Fin cfg0.N) (r : Fin 1024) (k : Fin 4096) (i : Fin 16384) (hi : i.val = t.val % 16 * 1024 + r.val) :
    (iblk m c 0 t : FVec Ideal S1024x4096 .bf16) (ix2 r k) = X m c (ix2 i k) := by
  obtain ⟨e0, e1, e2, e3⟩ := idx t
  blk_ext [iblk, V, e0]

/-- The block of gate weights it reads. -/
theorem iblk1 (c : Dev nD) (t : Fin cfg0.N) (k : Fin 4096) (l : Fin 256) (j : Fin 22016) (hj : j.val = t.val / 16 * 256 + l.val) :
    (iblk m c 1 t : FVec Ideal S1x4096x256 .f32) (ix3 0 k l) = W m c (ix3 0 k j) := by
  obtain ⟨e0, e1, e2, e3⟩ := idx t
  blk_ext [iblk, V, e1]

/-- The block of up weights it reads. -/
theorem iblk2 (c : Dev nD) (t : Fin cfg0.N) (k : Fin 4096) (l : Fin 256) (j : Fin 22016) (hj : j.val = 11008 + (t.val / 16 * 256 + l.val)) :
    (iblk m c 2 t : FVec Ideal S1x4096x256 .f32) (ix3 0 k l) = W m c (ix3 0 k j) := by
  obtain ⟨e0, e1, e2, e3⟩ := idx t
  blk_ext [iblk, V, e2]

/-- The block of the convolution's weights it reads. -/
theorem iblk3 (c : Dev nD) (t : Fin cfg0.N) (q : Fin 3) (l : Fin 256) (j : Fin 11008) (hj : j.val = t.val / 16 * 256 + l.val) :
    (iblk m c 3 t : FVec Ideal S3x256 .f32) (ix2 q l) = K m c (ix2 q j) := by
  obtain ⟨e0, e1, e2, e3⟩ := idx t
  blk_ext [iblk, V, e3]

/-- One element of the projection: row `i`, column `j` of the half that begins at column `o`. -/
def D (x : FVec Ideal S16384x4096 .bf16) (w : FVec Ideal S2x4096x22016 .f32) (o : Nat) (ho : o ≤ 11008) (j : Fin 11008) (i : Fin 16384) : EReal :=
  ∑ k : Fin 4096, x (ix2 i k) * w (ix3 0 k ⟨o + j.val, by omega⟩)

/-- The value at row `i`, column `j`. -/
def Out (x : FVec Ideal S16384x4096 .bf16) (w : FVec Ideal S2x4096x22016 .f32) (k : FVec Ideal S3x11008 .f32) (i : Fin 16384) (j : Fin 11008) : EReal :=
  gelu ((k (ix2 0 j) * Sums.gtap 2 (D x w 0 (by omega) j) i + k (ix2 1 j) * Sums.gtap 1 (D x w 0 (by omega) j) i)
    + k (ix2 2 j) * D x w 0 (by omega) j i) * D x w 11008 (by omega) j i

/-- A tile's contraction against a block of weights is the array's. -/
theorem dotB_eq (c : Dev nD) (o : Nat) (ho : o ≤ 11008) (t : Fin cfg0.N) (w : Vec Ideal S1x4096x256 .f32) (l : Fin 256) (j : Fin 11008)
    (hw : ∀ k, w (ix3 0 k l) = W m c (ix3 0 k ⟨o + j.val, by omega⟩)) (r : Fin 1024) (i : Fin 16384)
    (hi : i.val = t.val % 16 * 1024 + r.val) : dotB (iblk m c 0 t) w r l = D (X m c) (W m c) o ho j i :=
  Finset.sum_congr rfl fun k _ => congrArg₂ (· * ·) (iblk0 m c t r k i hi) (hw k)

/-- So is its contraction against the weights in scratch. -/
theorem dotS_eq (c : Dev nD) (o : Nat) (ho : o ≤ 11008) (t : Fin cfg0.N) (w : Vec Ideal S4096x256 .bf16) (l : Fin 256) (j : Fin 11008)
    (hw : ∀ k, w (ix2 k l) = W m c (ix3 0 k ⟨o + j.val, by omega⟩)) (r : Fin 1024) (i : Fin 16384)
    (hi : i.val = t.val % 16 * 1024 + r.val) : dotS (iblk m c 0 t) w r l = D (X m c) (W m c) o ho j i :=
  Finset.sum_congr rfl fun k _ => congrArg₂ (· * ·) (iblk0 m c t r k i hi) (hw k)

/-- A tile's formula is the array's, when its rows, its halo and its taps' weights are the array's. -/
theorem mix_eq (c : Dev nD) (j : Fin 11008) (t : Fin cfg0.N) {H : Fin 8 → EReal} {U b : Fin 1024 → EReal} {w0 w1 w2 : EReal}
    (hU : ∀ (r : Fin 1024) (i : Fin 16384), i.val = t.val % 16 * 1024 + r.val → U r = D (X m c) (W m c) 0 (by omega) j i)
    (hb : ∀ (r : Fin 1024) (i : Fin 16384), i.val = t.val % 16 * 1024 + r.val → b r = D (X m c) (W m c) 11008 (by omega) j i)
    (hZ : t.val % 8 = 0 → ∀ q, H q = 0)
    (hH : ¬ t.val % 8 = 0 → ∀ (q : Fin 8) (i : Fin 16384), i.val + 8 = t.val % 16 * 1024 + q.val → H q = D (X m c) (W m c) 0 (by omega) j i)
    (h0 : w0 = K m c (ix2 0 j)) (h1 : w1 = K m c (ix2 1 j)) (h2 : w2 = K m c (ix2 2 j))
    (r : Fin 1024) (i : Fin 16384) (hi : i.val = t.val % 16 * 1024 + r.val) : mix H U b w0 w1 w2 r = Out (X m c) (W m c) (K m c) i j := by
  have tap (n : Nat) (hn : n ≤ 8) : Sums.tap n H U r = Sums.gtap n (D (X m c) (W m c) 0 (by omega) j) i :=
    Sums.tap_eq hn (by omega) hU (fun h => hZ (by omega)) (fun h => hH (by omega)) r i hi
  unfold mix Out
  rw [tap 2 (by omega), tap 1 (by omega), hU r i hi, hb r i hi, h0, h1, h2]

/-- What the two weight scratches hold after a point: the casts of its column block of their halves. -/
theorem scr (c : Dev nD) (k : Fin 4096) (l : Fin 256) : ∀ (n : Nat) (t : Fin cfg0.N) (j : Fin 11008), n = t.val % 16 →
    j.val = t.val / 16 * 256 + l.val →
    (outsAt0 m c t.val t.isLt).2.1 (ix2 k l) = W m c (ix3 0 k ⟨0 + j.val, by omega⟩)
      ∧ (outsAt0 m c t.val t.isLt).2.2.1 (ix2 k l) = W m c (ix3 0 k ⟨11008 + j.val, by omega⟩) := by
  intro n
  induction n with
  | zero =>
    intro t j ht hj
    rw [outsAt0_A m c t (by omega) ht.symm (by omega)]
    dsimp only
    rw [sA0, sA1]
    exact ⟨iblk1 m c t k l _ (by dsimp only; omega), iblk2 m c t k l _ (by dsimp only; omega)⟩
  | succ n ih =>
    intro t j ht hj
    have prev := ih ⟨t.val - 1, Nat.lt_of_le_of_lt (Nat.sub_le _ _) t.isLt⟩ j (by dsimp only; omega) (by dsimp only; omega)
    by_cases h : t.val % 8 = 0
    · rw [outsAt0_C m c t h (by omega) (by omega)]
      dsimp only
      unfold sout0_C_0 sout0_C_1
      exact prev
    · rw [outsAt0_B m c t h (by omega) (by omega)]
      dsimp only
      unfold sout0_B_0 sout0_B_1
      exact prev

/-- What the halo holds after a point: the last eight rows of the gate projection of its tile. -/
theorem halo (c : Dev nD) (t : Fin cfg0.N) (q : Fin 8) (l : Fin 256) (i : Fin 16384) (j : Fin 11008)
    (hi : i.val = t.val % 16 * 1024 + (1016 + q.val)) (hj : j.val = t.val / 16 * 256 + l.val) :
    (outsAt0 m c t.val t.isLt).2.2.2 (ix2 q l) = D (X m c) (W m c) 0 (by omega) j i := by
  by_cases h1 : t.val % 16 = 0
  · rw [outsAt0_A m c t (by omega) h1 (by omega)]
    dsimp only
    rw [sA2]
    exact dotB_eq m c _ _ t _ l j (fun k => iblk1 m c t k l _ (by dsimp only; omega)) _ i hi
  · have prev (k : Fin 4096) := scr m c k l _ ⟨t.val - 1, Nat.lt_of_le_of_lt (Nat.sub_le _ _) t.isLt⟩ j rfl (by dsimp only; omega)
    by_cases h : t.val % 8 = 0
    · rw [outsAt0_C m c t h h1 (by omega)]
      dsimp only
      rw [sC2]
      exact dotS_eq m c _ _ t _ l j (fun k => (prev k).1) _ i hi
    · rw [outsAt0_B m c t h h1 (by omega)]
      dsimp only
      rw [sB2]
      exact dotS_eq m c _ _ t _ l j (fun k => (prev k).1) _ i hi

/-- What a point stores in its output block: the value at the block's rows and columns. -/
theorem out (c : Dev nD) (t : Fin cfg0.N) (r : Fin 1024) (l : Fin 256) (i : Fin 16384) (j : Fin 11008)
    (hi : i.val = t.val % 16 * 1024 + r.val) (hj : j.val = t.val / 16 * 256 + l.val) :
    (outsAt0 m c t.val t.isLt).1 (ix2 r l) = Out (X m c) (W m c) (K m c) i j := by
  have hk (q : Fin 3) := iblk3 m c t q l j hj
  by_cases h1 : t.val % 16 = 0
  · rw [outsAt0_A m c t (by omega) h1 (by omega)]
    dsimp only
    rw [oA]
    exact mix_eq m c j t (dotB_eq m c _ _ t _ l j (fun k => iblk1 m c t k l _ (by dsimp only; omega)))
      (dotB_eq m c _ _ t _ l j (fun k => iblk2 m c t k l _ (by dsimp only; omega)))
      (fun _ _ => rfl) (fun h => absurd (by omega) h) (hk 0) (hk 1) (hk 2) r i hi
  · have prev (k : Fin 4096) := scr m c k l _ ⟨t.val - 1, Nat.lt_of_le_of_lt (Nat.sub_le _ _) t.isLt⟩ j rfl (by dsimp only; omega)
    by_cases h : t.val % 8 = 0
    · rw [outsAt0_C m c t h h1 (by omega)]
      dsimp only
      rw [oC]
      exact mix_eq m c j t (dotS_eq m c _ _ t _ l j (fun k => (prev k).1)) (dotS_eq m c _ _ t _ l j (fun k => (prev k).2))
        (fun _ _ => rfl) (fun h' => absurd h h') (hk 0) (hk 1) (hk 2) r i hi
    · rw [outsAt0_B m c t h h1 (by omega)]
      dsimp only
      rw [oB]
      exact mix_eq m c j t (dotS_eq m c _ _ t _ l j (fun k => (prev k).1)) (dotS_eq m c _ _ t _ l j (fun k => (prev k).2)) (fun h' => absurd h' h)
        (fun _ q i' hi' => halo m c ⟨t.val - 1, Nat.lt_of_le_of_lt (Nat.sub_le _ _) t.isLt⟩ q l i' j (by dsimp only; omega) (by dsimp only; omega))
        (hk 0) (hk 1) (hk 2) r i hi

/-- What the kernel leaves in its output array, element by element. -/
theorem G (c : Dev nD) (i : S16384x11008.Idx) : (Value.G4 m c : FVec Ideal S16384x11008 .bf16) i = Out (X m c) (W m c) (K m c) (i 0) (i 1) := by
  idx_vars i
  have hN : cfg0.N = 688 := N_0
  have hp : Value.pt4Of (ix2 i0 i1) < cfg0.N := by
    rw [hN]; show 1 * (i0.val / 1024 - 0) + 16 * (i1.val / 256 - 0) < 688; omega
  unfold Value.G4
  rw [dif_pos hp, ← Value.outsAt0_sweep m c _ hp]
  have e : Value.loc4Of (ix2 i0 i1) = ix2 ⟨i0.val % 1024, by omega⟩ ⟨i1.val % 256, by omega⟩ := eq_ix2 _
  rw [e]
  refine out m c ⟨_, hp⟩ _ _ i0 i1 ?_ ?_
  · show i0.val = (1 * (i0.val / 1024 - 0) + 16 * (i1.val / 256 - 0)) % 16 * 1024 + i0.val % 1024
    omega
  · show i1.val = (1 * (i0.val / 1024 - 0) + 16 * (i1.val / 256 - 0)) / 16 * 256 + i1.val % 256
    omega

section Reference

open Cert.FfnInRefIdeal.Read

variable (x : FVec Ideal S16384x4096 .bf16) (w : FVec Ideal S2x4096x22016 .f32) (k : FVec Ideal S3x11008 .f32)

/-- The reference's gate projection, which it convolves. -/
theorem ref5 (b : Fin 2) (s : Fin 8192) (j : Fin 11008) (i : Fin 16384) (hi : i.val = b.val * 8192 + s.val) :
    (val_main_v5 (F := Ideal) x w : FVec Ideal Cert.FfnInRefIdeal.S2x8192x11008 .f32) (ix3 b s j) = D x w 0 (by omega) j i := by
  have e : i = ⟨b.val * 8192 + s.val, by omega⟩ := Fin.ext hi
  rw [e]
  pointwise [val_main_v5, val_main_v4, val_main_v3, val_main_v2, val_main_v1, val_main_v0]
  unfold D
  simp only [Nat.zero_add]

/-- The gate, padded: the tap. -/
theorem ref7 (b : Fin 2) (s : Fin 8194) (j : Fin 11008) (i : Fin 16384) (n : Nat) (hb : b.val = i.val / 8192) (hs : s.val + n = 2 + i.val % 8192) :
    (val_main_v7 (F := Ideal) x w : FVec Ideal Cert.FfnInRefIdeal.S2x8194x11008 .f32) (ix3 b s j) = Sums.gtap n (D x w 0 (by omega) j) i := by
  pointwise [val_main_v7, val_main_call0_v0, val_main_c]
  unfold Sums.gtap
  by_cases h : n ≤ i.val % 8192
  · rw [if_pos h, dif_pos ⟨by omega, by omega⟩]
    exact ref5 x w b _ j _ (by dsimp only; omega)
  · rw [if_neg h, dif_neg (by omega), Sums.sitofp_zero]

/-- The convolved gate. -/
theorem ref29 (i : Fin 16384) (j : Fin 11008) :
    (val_main_v29 (F := Ideal) x w k : FVec Ideal Cert.FfnInRefIdeal.S2x8192x11008 .f32) (ix3 ⟨i.val / 8192, by omega⟩ ⟨i.val % 8192, by omega⟩ j)
    = (k (ix2 0 j) * Sums.gtap 2 (D x w 0 (by omega) j) i + k (ix2 1 j) * Sums.gtap 1 (D x w 0 (by omega) j) i) + k (ix2 2 j) * D x w 0 (by omega) j i := by
  pointwise [val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_cst]
  rw [ref7 x w _ _ j i 2 rfl (Nat.add_comm _ _), ref7 x w _ _ j i 1 rfl (by dsimp only; omega), ref7 x w _ _ j i 0 rfl rfl]
  rfl

/-- The reference's result, element by element: the same value. -/
theorem ref (i : S16384x11008.Idx) :
    (val_main_v45 (F := Ideal) x w k : FVec Ideal S16384x11008 .bf16) i = Out x w k (i 0) (i 1) := by
  idx_vars i
  have up : (val_main_v6 (F := Ideal) x w : FVec Ideal Cert.FfnInRefIdeal.S2x8192x11008 .f32) (ix3 ⟨i0.val / 8192, by omega⟩ ⟨i0.val % 8192, by omega⟩ i1)
      = D x w 11008 (by omega) i1 i0 := by
    pointwise [val_main_v6, val_main_v4, val_main_v3, val_main_v2, val_main_v1, val_main_v0]
    rfl
  pointwise [val_main_v45, val_main_v44, val_main_v43, val_main_v42, val_main_v41, val_main_v40, val_main_v39, val_main_v38,
    val_main_v37, val_main_v36, val_main_v35, val_main_v34, val_main_v33, val_main_v32, val_main_v31, val_main_v30,
    val_main_cst_0, val_main_cst_1, val_main_cst_2, val_main_cst_3]
  rw [ref29 x w k i0 i1, up]
  unfold Out gelu
  rw [mul_left_comm, ← mul_assoc (Ideal.ofBits .f32 _)]

end Reference

/-- The kernel over the reals computes what the reference computes. -/
theorem algebraic : algebraic_FfnInIdeal_FfnInRefIdeal := by
  intro m ρ m' ρ' _ hagree
  refine ⟨_, Value.run (F := Ideal) m ρ, ?_⟩
  refine (θ_run Cert.FfnInRefIdeal.defs _ _).mono (fun _ h c => ⟨?_, (h c).2⟩) (Cert.FfnInRefIdeal.Value.run (F := Ideal) m' ρ')
  rw [(h c).1, Cert.FfnInRefIdeal.Read.val_main_v45_eq]
  simp only [hagree c]
  funext i
  exact (ref (X m c) (W m c) (K m c) i).trans (G m c i).symm

end Cert.FfnInIdeal.Sum
-- ==== Proof.InProj.lean ====
/- The projections the attention and the gates read: what the kernel `_mm_colscale_kernel` leaves in its output array when it
   multiplies by the last 14336 columns of the in-projection and scales every column, element by element, and that the plain
   reference computes the same. The grid runs over fourteen column blocks of 1024, and in each over 32 tiles of 512 tokens;
   the first tile of a column block casts its block of weights into scratch, which the later ones read. -/
module

public import proofs.«01_k».proof.Defs
public import proofs.«01_k».proof.Proof.Gen.InProjIdeal.Value
public import proofs.«01_k».proof.Proof.Gen.InProjRefIdeal.Read
public import Idealize.ShloMosaic.Lib.Pipeline.ValueKit
public import Idealize.ShloMosaic.Lib.Pipeline.ReadBack
public import Idealize.ShloMosaic.Lib.Pointwise
public import proofs.«01_k».proof.Proof.Sums

@[expose] public section

set_option maxRecDepth 16384
noncomputable section

namespace Cert.InProjIdeal.Sum

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

section Cases

variable (c : Dev nD) (i : grid0.Coords) (a2 : Memref sig .tc .vmem S512x4096 .bf16) (h2 : a2.IsWhole)
  (a3 : Memref sig .tc .vmem S1x4096x1024 .f32) (h3 : a3.IsWhole) (a4 : Memref sig .tc .vmem S1x1024 .f32) (h4 : a4.IsWhole)
  (a5 : Memref sig .tc .vmem S512x1024 .bf16) (h5 : a5.IsWhole) (a6 : Memref sig .tc .vmem S4096x1024 .bf16) (h6 : a6.IsWhole)
  (x0 : Vec Ideal S512x4096 .bf16) (x1 : Vec Ideal S1x4096x1024 .f32) (x2 : Vec Ideal S1x1024 .f32)

/-- The first tile of a column block casts that block of the weights into scratch. -/
theorem sA (hc0 : cond0_0 i) (hc1 : ¬cond0_1 i) (y : S4096x1024.Idx) :
    sout0_A_0 c i a2 h2 a3 h3 a4 h4 a5 h5 a6 h6 hc0 hc1 x0 x1 x2 y = x1 (ix3 0 (y 0) (y 1)) := by
  frame_out
  canon_tiles x h
  all_goals
    unfold_payloads
    pointwise
    exact congrArg x1 (by congr 1 <;> apply Fin.ext <;> simp only [h0, h1])

/-- Its output: the whole contraction, scaled, though it is summed a quarter at a time. -/
theorem oA (hc0 : cond0_0 i) (hc1 : ¬cond0_1 i) (r : Fin 512) (l : Fin 1024) :
    out0_A_3 c i a2 h2 a3 h3 a4 h4 a5 h5 a6 h6 hc0 hc1 x0 x1 x2 (ix2 r l) = (∑ k : Fin 4096, x0 (ix2 r k) * x1 (ix3 0 k l)) * x2 (ix2 0 l) := by
  frame_out
  simp only [View.readCov_cons_toLoadRect]
  unfold_payloads
  pointwise
  exact congrArg (· * _) (Sums.quartersDot x0 x1 r l)

/-- A later tile's output, over the weights in scratch. -/
theorem oB (hc0 : ¬cond0_0 i) (hc1 : cond0_1 i) (xs : Vec Ideal S4096x1024 .bf16) (r : Fin 512) (l : Fin 1024) :
    out0_B_3 c i a2 h2 a3 h3 a4 h4 a5 h5 a6 h6 hc0 hc1 x0 x1 x2 xs (ix2 r l) = (∑ k : Fin 4096, x0 (ix2 r k) * xs (ix2 k l)) * x2 (ix2 0 l) := by
  frame_out
  pointwise [k0_pay3]

end Cases

/-- Which blocks a grid point reads: the token tile `t % 32`, and of the weights and the scale the column block `t / 32`
    after the six that the conv mixer reads. -/
theorem idx : ∀ t : Fin cfg0.N, win0_0.index t = ![t.val % 32, 0] ∧ win0_1.index t = ![0, 0, 6 + t.val / 32]
      ∧ win0_2.index t = ![0, 6 + t.val / 32] :=
  (by decide +kernel : ∀ t : Fin grid0.N, win0_0.index t = ![t.val % 32, 0] ∧ win0_1.index t = ![0, 0, 6 + t.val / 32]
      ∧ win0_2.index t = ![0, 6 + t.val / 32])

/-- The activations, as an array of numbers. -/
abbrev X (c : Dev nD) : FVec Ideal S16384x4096 .bf16 := m ((c : Thread nD τ).loc main_arg0)
/-- The in-projection's weights. -/
abbrev W (c : Dev nD) : FVec Ideal S2x4096x20480 .f32 := m ((c : Thread nD τ).loc main_arg1)
/-- The scale of every column. -/
abbrev S (c : Dev nD) : FVec Ideal S20480 .f32 := m ((c : Thread nD τ).loc main_arg2)

/-- The tile of activations a point reads. -/
theorem iblk0 (c : Dev nD) (t : Fin cfg0.N) (r : Fin 512) (k : Fin 4096) (i : Fin 16384) (hi : i.val = t.val % 32 * 512 + r.val) :
    (iblk m c 0 t : FVec Ideal S512x4096 .bf16) (ix2 r k) = X m c (ix2 i k) := by
  obtain ⟨e0, e1, e2⟩ := idx t
  blk_ext [iblk, V, e0]

/-- The block of weights it reads. -/
theorem iblk1 (c : Dev nD) (t : Fin cfg0.N) (k : Fin 4096) (l : Fin 1024) (j : Fin 20480) (hj : j.val = 6144 + (t.val / 32 * 1024 + l.val)) :
    (iblk m c 1 t : FVec Ideal S1x4096x1024 .f32) (ix3 0 k l) = W m c (ix3 0 k j) := by
  obtain ⟨e0, e1, e2⟩ := idx t
  blk_ext [iblk, V, e1]

/-- The block of the scale it reads. -/
theorem iblk2 (c : Dev nD) (t : Fin cfg0.N) (l : Fin 1024) (j : Fin 20480) (hj : j.val = 6144 + (t.val / 32 * 1024 + l.val)) :
    (iblk m c 2 t : FVec Ideal S1x1024 .f32) (ix2 0 l) = S m c (ix1 j) := by
  obtain ⟨e0, e1, e2⟩ := idx t
  have e : (win0_2.blk t).view.emb (ix2 0 l) = (ix2 0 j : S1x20480.Idx) := by blk_ext [e2]
  show V m c main_v0 ((win0_2.blk t).view.emb (ix2 0 l)) = _
  rw [e]
  entry_read
  pointwise

/-- What the weight scratch holds after a point: the cast of its column block. -/
theorem scr (c : Dev nD) (k : Fin 4096) (l : Fin 1024) : ∀ (n : Nat) (t : Fin cfg0.N) (j : Fin 20480), n = t.val % 32 →
    j.val = 6144 + (t.val / 32 * 1024 + l.val) → (outsAt0 m c t.val t.isLt).2 (ix2 k l) = W m c (ix3 0 k j) := by
  intro n
  induction n with
  | zero =>
    intro t j ht hj
    rw [outsAt0_A m c t ht.symm (by omega)]
    dsimp only
    rw [sA]
    exact iblk1 m c t k l j hj
  | succ n ih =>
    intro t j ht hj
    rw [outsAt0_B m c t (by omega) (by omega)]
    dsimp only
    unfold sout0_B_0
    exact ih ⟨t.val - 1, Nat.lt_of_le_of_lt (Nat.sub_le _ _) t.isLt⟩ j (by dsimp only; omega) (by dsimp only; omega)

/-- The value at row `i`, column `j` of the columns from 6144 on. -/
def Out (x : FVec Ideal S16384x4096 .bf16) (w : FVec Ideal S2x4096x20480 .f32) (s : FVec Ideal S20480 .f32) (i : Fin 16384) (j : Fin 14336) : EReal :=
  (∑ k : Fin 4096, x (ix2 i k) * w (ix3 0 k ⟨6144 + j.val, by omega⟩)) * s (ix1 ⟨6144 + j.val, by omega⟩)

/-- What a point stores in its output block. -/
theorem out (c : Dev nD) (t : Fin cfg0.N) (r : Fin 512) (l : Fin 1024) (i : Fin 16384) (j : Fin 14336)
    (hi : i.val = t.val % 32 * 512 + r.val) (hj : j.val = t.val / 32 * 1024 + l.val) :
    (outsAt0 m c t.val t.isLt).1 (ix2 r l) = Out (X m c) (W m c) (S m c) i j := by
  have hj' : 6144 + j.val = 6144 + (t.val / 32 * 1024 + l.val) := by omega
  have hs := iblk2 m c t l ⟨6144 + j.val, by omega⟩ hj'
  by_cases h0 : t.val % 32 = 0
  · rw [outsAt0_A m c t h0 (by omega)]
    dsimp only
    rw [oA]
    exact congrArg₂ (· * ·) (Finset.sum_congr rfl fun k _ => congrArg₂ (· * ·) (iblk0 m c t r k i hi) (iblk1 m c t k l _ hj')) hs
  · rw [outsAt0_B m c t h0 (by omega)]
    dsimp only
    rw [oB]
    exact congrArg₂ (· * ·) (Finset.sum_congr rfl fun k _ => congrArg₂ (· * ·) (iblk0 m c t r k i hi)
      (scr m c k l _ ⟨t.val - 1, Nat.lt_of_le_of_lt (Nat.sub_le _ _) t.isLt⟩ _ rfl (by dsimp only; omega))) hs

/-- What the kernel leaves in its output array, element by element. -/
theorem G (c : Dev nD) (i : S16384x14336.Idx) : (Value.G3 m c : FVec Ideal S16384x14336 .bf16) i = Out (X m c) (W m c) (S m c) (i 0) (i 1) := by
  idx_vars i
  have hN : cfg0.N = 448 := N_0
  have hp : Value.pt3Of (ix2 i0 i1) < cfg0.N := by
    rw [hN]; show 1 * (i0.val / 512 - 0) + 32 * (i1.val / 1024 - 0) < 448; omega
  unfold Value.G3
  rw [dif_pos hp, ← Value.outsAt0_sweep m c _ hp]
  have e : Value.loc3Of (ix2 i0 i1) = ix2 ⟨i0.val % 512, by omega⟩ ⟨i1.val % 1024, by omega⟩ := eq_ix2 _
  rw [e]
  refine out m c ⟨_, hp⟩ _ _ i0 i1 ?_ ?_
  · show i0.val = (1 * (i0.val / 512 - 0) + 32 * (i1.val / 1024 - 0)) % 32 * 512 + i0.val % 512
    omega
  · show i1.val = (1 * (i0.val / 512 - 0) + 32 * (i1.val / 1024 - 0)) / 32 * 1024 + i1.val % 1024
    omega

/-- The reference's result, element by element: the same value. -/
theorem ref (x : FVec Ideal S16384x4096 .bf16) (w : FVec Ideal S2x4096x20480 .f32) (s : FVec Ideal S20480 .f32) (i : S16384x14336.Idx) :
    (Cert.InProjRefIdeal.Read.val_main_v9 (F := Ideal) x w s : FVec Ideal S16384x14336 .bf16) i = Out x w s (i 0) (i 1) := by
  idx_vars i
  open Cert.InProjRefIdeal.Read in
  pointwise [val_main_v9, val_main_v8, val_main_v7, val_main_v6, val_main_v5, val_main_v4, val_main_v3, val_main_v2, val_main_v1, val_main_v0]
  rfl

/-- The kernel over the reals computes what the reference computes. -/
theorem algebraic : algebraic_InProjIdeal_InProjRefIdeal := by
  intro m ρ m' ρ' _ hagree
  refine ⟨_, Value.run (F := Ideal) m ρ, ?_⟩
  refine (θ_run Cert.InProjRefIdeal.defs _ _).mono (fun _ h c => ⟨?_, (h c).2⟩) (Cert.InProjRefIdeal.Value.run (F := Ideal) m' ρ')
  rw [(h c).1]
  simp only [hagree c]
  funext i
  exact (ref (X m c) (W m c) (S m c) i).trans (G m c i).symm

end Cert.InProjIdeal.Sum
-- ==== Proof.FfnOut.lean ====
/- The ConvFFN's second half: what the kernel `_mm_direct_kernel` leaves in its output array when it multiplies by the down
   projection, element by element, and that the plain reference computes the same. Every grid point writes one tile of
   512 tokens by 512 columns, the whole contraction of 11008 in one product, over weights the host has cast. -/
module

public import proofs.«01_k».proof.Defs
public import proofs.«01_k».proof.Proof.Gen.FfnOutIdeal.Value
public import proofs.«01_k».proof.Proof.Gen.FfnOutRefIdeal.Read
public import Idealize.ShloMosaic.Lib.Pipeline.ValueKit
public import Idealize.ShloMosaic.Lib.Pipeline.ReadBack
public import Idealize.ShloMosaic.Lib.Pointwise

@[expose] public section

set_option maxRecDepth 16384
noncomputable section

namespace Cert.FfnOutIdeal.Sum

open Cert.FfnOutIdeal Cert.FfnOutIdeal.Gen Idealize.ShloMosaic Idealize.ShloMosaic.TcCoe Idealize.SL.Sem
open Idealize.ShloMosaic.Pipeline (Dat)

variable (m : (ℓ : Loc nD τ sig) → Buf (Elt Ideal) ℓ)

/-- Which blocks a grid point reads and writes: the token tile `t % 32`, the column block `t / 32`. -/
theorem idx : ∀ t : Fin cfg0.N, win0_0.index t = ![t.val % 32, 0] ∧ win0_1.index t = ![0, 0, t.val / 32]
      ∧ win0_2.index t = ![t.val % 32, t.val / 32] :=
  (by decide +kernel : ∀ t : Fin grid0.N, win0_0.index t = ![t.val % 32, 0] ∧ win0_1.index t = ![0, 0, t.val / 32]
      ∧ win0_2.index t = ![t.val % 32, t.val / 32])

/-- The activations, as an array of numbers. -/
abbrev X (c : Dev nD) : FVec Ideal S16384x11008 .bf16 := m ((c : Thread nD τ).loc main_arg0)
/-- The down projection's weights. -/
abbrev W (c : Dev nD) : FVec Ideal S2x11008x4096 .f32 := m ((c : Thread nD τ).loc main_arg1)

/-- One element of the product. -/
def Out (x : FVec Ideal S16384x11008 .bf16) (w : FVec Ideal S2x11008x4096 .f32) : FVec Ideal S16384x4096 .bf16 :=
  fun i => ∑ k : Fin 11008, x (ix2 (i 0) k) * w (ix3 0 k (i 1))

/-- What the kernel leaves in its output array. -/
theorem G (c : Dev nD) : (dats m 0 c).arrAt 2 cfg0.N = Out (X m c) (W m c) := by
  refine (dats m 0 c).arrAt_eq_of_covers 2 _ (by decide +kernel) fun t hf y => ?_
  blk_simp
  rw [after0_2]
  frame_out
  unfold_payloads
  pointwise
  obtain ⟨e0, e1, e2⟩ := idx t
  refine Fin.sum_fin_congr fun k => congrArg₂ (· * ·) ?_ ?_
  · blk_ext [iblk, V, e0, e2]
  · blk_ext [iblk, V, e1, e2]

/-- The reference's result, element by element: the same contraction. -/
theorem ref (x : FVec Ideal S16384x11008 .bf16) (w : FVec Ideal S2x11008x4096 .f32) (i : S16384x4096.Idx) :
    (Cert.FfnOutRefIdeal.Read.val_main_v4 (F := Ideal) x w : FVec Ideal S16384x4096 .bf16) i = Out x w i := by
  open Cert.FfnOutRefIdeal.Read in
  pointwise [val_main_v4, val_main_v3, val_main_v2, val_main_v1, val_main_v0]
  rfl

/-- The kernel over the reals computes what the reference computes. -/
theorem algebraic : algebraic_FfnOutIdeal_FfnOutRefIdeal := by
  intro m ρ m' ρ' _ hagree
  refine ⟨_, Value.run_blocks (F := Ideal) m ρ, ?_⟩
  refine (θ_run Cert.FfnOutRefIdeal.defs _ _).mono (fun _ h c => ⟨?_, (h c).2⟩) (Cert.FfnOutRefIdeal.Value.run (F := Ideal) m' ρ')
  rw [(h c).1, G m c]
  simp only [hagree c]
  funext i
  exact ref (X m c) (W m c) i

end Cert.FfnOutIdeal.Sum
-- ==== Proof.MixOut.lean ====
/- The output projection: what the kernel leaves in its output array, element by element, and that the plain reference computes
   the same. The grid runs over four column blocks of 1024, and in each over 32 tiles of 512 tokens; the first tile of a column
   block casts its block of weights into scratch, which the later ones read. -/
module

public import proofs.«01_k».proof.Defs
public import proofs.«01_k».proof.Proof.Gen.MixOutIdeal.Value
public import proofs.«01_k».proof.Proof.Gen.MixOutRefIdeal.Read
public import Idealize.ShloMosaic.Lib.Pipeline.ValueKit
public import Idealize.ShloMosaic.Lib.Pipeline.ReadBack
public import Idealize.ShloMosaic.Lib.Pointwise
public import proofs.«01_k».proof.Proof.Sums

@[expose] public section

set_option maxRecDepth 16384
noncomputable section

namespace Cert.MixOutIdeal.Sum

open Cert.MixOutIdeal Cert.MixOutIdeal.Gen Idealize.ShloMosaic Idealize.ShloMosaic.TcCoe Idealize.SL.Sem
open Idealize.ShloMosaic.Pipeline (Dat)

variable (m : (ℓ : Loc nD τ sig) → Buf (Elt Ideal) ℓ)

/-- The first tile of a column block casts its block of weights into scratch. -/
theorem sA (c : Dev nD) (i : grid0.Coords) (a2 : Memref sig .tc .vmem S512x4096 .bf16) (h2 : a2.IsWhole)
    (a3 : Memref sig .tc .vmem S1x4096x1024 .f32) (h3 : a3.IsWhole) (a4 : Memref sig .tc .vmem S512x1024 .bf16) (h4 : a4.IsWhole)
    (a5 : Memref sig .tc .vmem S4096x1024 .bf16) (h5 : a5.IsWhole) (hc0 : cond0_0 i) (hc1 : ¬cond0_1 i)
    (x0 : Vec Ideal S512x4096 .bf16) (x1 : Vec Ideal S1x4096x1024 .f32) (y : S4096x1024.Idx) :
    sout0_A_0 c i a2 h2 a3 h3 a4 h4 a5 h5 hc0 hc1 x0 x1 y = x1 (ix3 0 (y 0) (y 1)) := by
  frame_out
  canon_tiles x h
  all_goals
    unfold_payloads
    pointwise
    exact congrArg x1 (by congr 1 <;> apply Fin.ext <;> simp only [h0, h1])

/-- Its output: the whole contraction, though it is summed a quarter at a time. -/
theorem oA (c : Dev nD) (i : grid0.Coords) (a2 : Memref sig .tc .vmem S512x4096 .bf16) (h2 : a2.IsWhole)
    (a3 : Memref sig .tc .vmem S1x4096x1024 .f32) (h3 : a3.IsWhole) (a4 : Memref sig .tc .vmem S512x1024 .bf16) (h4 : a4.IsWhole)
    (a5 : Memref sig .tc .vmem S4096x1024 .bf16) (h5 : a5.IsWhole) (hc0 : cond0_0 i) (hc1 : ¬cond0_1 i)
    (x0 : Vec Ideal S512x4096 .bf16) (x1 : Vec Ideal S1x4096x1024 .f32) (y : S512x1024.Idx) :
    out0_A_2 c i a2 h2 a3 h3 a4 h4 a5 h5 hc0 hc1 x0 x1 y = ∑ k : Fin 4096, x0 (ix2 (y 0) k) * x1 (ix3 0 k (y 1)) := by
  frame_out
  simp only [View.readCov_cons_toLoadRect]
  unfold_payloads
  pointwise
  exact Sums.quarters4096 fun k => x0 (ix2 (y 0) k) * x1 (ix3 0 k (y 1))

/-- A later tile's output, over the weights in scratch. -/
theorem oB (c : Dev nD) (i : grid0.Coords) (a2 : Memref sig .tc .vmem S512x4096 .bf16) (h2 : a2.IsWhole)
    (a3 : Memref sig .tc .vmem S1x4096x1024 .f32) (h3 : a3.IsWhole) (a4 : Memref sig .tc .vmem S512x1024 .bf16) (h4 : a4.IsWhole)
    (a5 : Memref sig .tc .vmem S4096x1024 .bf16) (h5 : a5.IsWhole) (hc0 : ¬cond0_0 i) (hc1 : cond0_1 i)
    (x0 : Vec Ideal S512x4096 .bf16) (x1 : Vec Ideal S1x4096x1024 .f32) (xs : Vec Ideal S4096x1024 .bf16) (y : S512x1024.Idx) :
    out0_B_2 c i a2 h2 a3 h3 a4 h4 a5 h5 hc0 hc1 x0 x1 xs y = ∑ k : Fin 4096, x0 (ix2 (y 0) k) * xs (ix2 k (y 1)) := by
  frame_out
  pointwise [k0_pay3]

/-- Which blocks a grid point reads: the token tile `t % 32`, the column block `t / 32`. -/
theorem idx : ∀ t : Fin cfg0.N, win0_0.index t = ![t.val % 32, 0] ∧ win0_1.index t = ![0, 0, t.val / 32] :=
  (by decide +kernel : ∀ t : Fin grid0.N, win0_0.index t = ![t.val % 32, 0] ∧ win0_1.index t = ![0, 0, t.val / 32])

/-- The activations, as an array of numbers. -/
abbrev X (c : Dev nD) : FVec Ideal S16384x4096 .bf16 := m ((c : Thread nD τ).loc main_arg0)
/-- The weights, as an array of numbers. -/
abbrev W (c : Dev nD) : FVec Ideal S2x4096x4096 .f32 := m ((c : Thread nD τ).loc main_arg1)

/-- The tile of rows a point reads. -/
theorem iblk0 (c : Dev nD) (t : Fin cfg0.N) (r : Fin 512) (k : Fin 4096) (i : Fin 16384) (hi : i.val = t.val % 32 * 512 + r.val) :
    (iblk m c 0 t : FVec Ideal S512x4096 .bf16) (ix2 r k) = X m c (ix2 i k) := by
  obtain ⟨e0, e1⟩ := idx t
  blk_ext [iblk, V, e0, e1]

/-- The block of weights. -/
theorem iblk1 (c : Dev nD) (t : Fin cfg0.N) (k : Fin 4096) (l : Fin 1024) (j : Fin 4096) (hj : j.val = t.val / 32 * 1024 + l.val) :
    (iblk m c 1 t : FVec Ideal S1x4096x1024 .f32) (ix3 0 k l) = W m c (ix3 0 k j) := by
  obtain ⟨e0, e1⟩ := idx t
  blk_ext [iblk, V, e0, e1]

/-- What the weight scratch holds after a point: the cast of its column block. -/
theorem scr (c : Dev nD) (k : Fin 4096) (l : Fin 1024) : ∀ (n : Nat) (t : Fin cfg0.N) (j : Fin 4096), n = t.val % 32 →
    j.val = t.val / 32 * 1024 + l.val → (outsAt0 m c t.val t.isLt).2 (ix2 k l) = W m c (ix3 0 k j) := by
  intro n
  induction n with
  | zero =>
    intro t j ht hj
    rw [outsAt0_A m c t ht.symm (by omega)]
    dsimp only
    rw [sA]
    exact iblk1 m c t k l j hj
  | succ n ih =>
    intro t j ht hj
    rw [outsAt0_B m c t (by omega) (by omega)]
    dsimp only
    unfold sout0_B_0
    exact ih ⟨t.val - 1, Nat.lt_of_le_of_lt (Nat.sub_le _ _) t.isLt⟩ j (by dsimp only; omega) (by dsimp only; omega)

/-- What a point stores in its output block. -/
theorem out (c : Dev nD) (t : Fin cfg0.N) (r : Fin 512) (l : Fin 1024) (i : Fin 16384) (j : Fin 4096)
    (hi : i.val = t.val % 32 * 512 + r.val) (hj : j.val = t.val / 32 * 1024 + l.val) :
    (outsAt0 m c t.val t.isLt).1 (ix2 r l) = ∑ k : Fin 4096, X m c (ix2 i k) * W m c (ix3 0 k j) := by
  by_cases h0 : t.val % 32 = 0
  · rw [outsAt0_A m c t h0 (by omega)]
    dsimp only
    rw [oA]
    refine Finset.sum_congr rfl fun k _ => ?_
    exact congrArg₂ (· * ·) (iblk0 m c t r k i hi) (iblk1 m c t k l j hj)
  · rw [outsAt0_B m c t h0 (by omega)]
    dsimp only
    rw [oB]
    refine Finset.sum_congr rfl fun k _ => ?_
    exact congrArg₂ (· * ·) (iblk0 m c t r k i hi) (scr m c k l _ ⟨t.val - 1, Nat.lt_of_le_of_lt (Nat.sub_le _ _) t.isLt⟩ j rfl (by dsimp only; omega))

/-- What the kernel leaves in its output array, element by element. -/
theorem G (c : Dev nD) (i : S16384x4096.Idx) : (Value.G2 m c : FVec Ideal S16384x4096 .bf16) i
    = ∑ k : Fin 4096, X m c (ix2 (i 0) k) * W m c (ix3 0 k (i 1)) := by
  idx_vars i
  have hN : cfg0.N = 128 := N_0
  have hp : Value.pt2Of (ix2 i0 i1) < cfg0.N := by
    rw [hN]; show 1 * (i0.val / 512 - 0) + 32 * (i1.val / 1024 - 0) < 128; omega
  unfold Value.G2
  rw [dif_pos hp, ← Value.outsAt0_sweep m c _ hp]
  have e : Value.loc2Of (ix2 i0 i1) = ix2 ⟨i0.val % 512, by omega⟩ ⟨i1.val % 1024, by omega⟩ := eq_ix2 _
  rw [e]
  refine out m c ⟨_, hp⟩ _ _ i0 i1 ?_ ?_
  · show i0.val = (1 * (i0.val / 512 - 0) + 32 * (i1.val / 1024 - 0)) % 32 * 512 + i0.val % 512
    omega
  · show i1.val = (1 * (i0.val / 512 - 0) + 32 * (i1.val / 1024 - 0)) / 32 * 1024 + i1.val % 1024
    omega

/-- The reference's result, element by element: the same contraction. -/
theorem ref (x : FVec Ideal S16384x4096 .bf16) (w : FVec Ideal S2x4096x4096 .f32) (i : S16384x4096.Idx) :
    (Cert.MixOutRefIdeal.Read.val_main_v4 (F := Ideal) x w : FVec Ideal S16384x4096 .bf16) i
    = ∑ k : Fin 4096, x (ix2 (i 0) k) * w (ix3 0 k (i 1)) := by
  open Cert.MixOutRefIdeal.Read in
  pointwise [val_main_v4, val_main_v3, val_main_v2, val_main_v1, val_main_v0]

/-- The kernel over the reals computes what the reference computes. -/
theorem algebraic : algebraic_MixOutIdeal_MixOutRefIdeal := by
  intro m ρ m' ρ' _ hagree
  refine ⟨_, Value.run (F := Ideal) m ρ, ?_⟩
  refine (θ_run Cert.MixOutRefIdeal.defs _ _).mono (fun _ h c => ⟨?_, (h c).2⟩) (Cert.MixOutRefIdeal.Value.run (F := Ideal) m' ρ')
  rw [(h c).1]
  simp only [hagree c]
  funext i
  exact (ref (X m c) (W m c) i).trans (G m c i).symm

end Cert.MixOutIdeal.Sum
-- ==== Proof.Merge.lean ====
/- The merge of the two mixers: what the kernel `_merge_kernel` leaves in its output array, element by element, and that the
   plain reference computes the same. The grid runs over eight column blocks of 512, and in each over sixteen tiles of 1024
   tokens; the first tile of a column block casts its two blocks of weights into scratch, which the later ones read. -/
module

public import proofs.«01_k».proof.Defs
public import proofs.«01_k».proof.Proof.Gen.MergeIdeal.Value
public import proofs.«01_k».proof.Proof.Gen.MergeRefIdeal.Read
public import Idealize.ShloMosaic.Lib.Pipeline.ValueKit
public import Idealize.ShloMosaic.Lib.Pipeline.ReadBack
public import Idealize.ShloMosaic.Lib.Pointwise
public import proofs.«01_k».proof.Proof.Sums

@[expose] public section

set_option maxRecDepth 16384
noncomputable section

namespace Cert.MergeIdeal.Sum

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

section Cases

variable (c : Dev nD) (i : grid0.Coords) (a2 : Memref sig .tc .vmem S1024x2048 .bf16) (h2 : a2.IsWhole)
  (a3 : Memref sig .tc .vmem S1024x2048 .bf16) (h3 : a3.IsWhole) (a4 : Memref sig .tc .vmem S1x2048x512 .f32) (h4 : a4.IsWhole)
  (a5 : Memref sig .tc .vmem S1x2048x512 .f32) (h5 : a5.IsWhole) (a6 : Memref sig .tc .vmem S1024x512 .bf16) (h6 : a6.IsWhole)
  (a7 : Memref sig .tc .vmem S1024x512 .bf16) (h7 : a7.IsWhole) (a8 : Memref sig .tc .vmem S1x512 .f32) (h8 : a8.IsWhole)
  (a9 : Memref sig .tc .vmem S1x512 .f32) (h9 : a9.IsWhole) (a10 : Memref sig .tc .vmem S1024x512 .bf16) (h10 : a10.IsWhole)
  (a11 : Memref sig .tc .vmem S2048x512 .bf16) (h11 : a11.IsWhole) (a12 : Memref sig .tc .vmem S2048x512 .bf16) (h12 : a12.IsWhole)
  (x0 x1 : Vec Ideal S1024x2048 .bf16) (x2 x3 : Vec Ideal S1x2048x512 .f32) (x4 x5 : Vec Ideal S1024x512 .bf16)
  (x6 x7 : Vec Ideal S1x512 .f32)

/-- The first tile of a column block casts the conv mixer's block of weights into scratch. -/
theorem sA0 (hc0 : cond0_0 i) (hc1 : ¬cond0_1 i) (y : S2048x512.Idx) :
    sout0_A_0 c i a2 h2 a3 h3 a4 h4 a5 h5 a6 h6 a7 h7 a8 h8 a9 h9 a10 h10 a11 h11 a12 h12 hc0 hc1 x0 x1 x2 x3 x4 x5 x6 x7 y = x2 (ix3 0 (y 0) (y 1)) := by
  frame_out
  canon_tiles x h
  all_goals
    unfold_payloads
    pointwise
    exact congrArg x2 (by congr 1 <;> apply Fin.ext <;> simp only [h0, h1])

/-- And the attention's. -/
theorem sA1 (hc0 : cond0_0 i) (hc1 : ¬cond0_1 i) (y : S2048x512.Idx) :
    sout0_A_1 c i a2 h2 a3 h3 a4 h4 a5 h5 a6 h6 a7 h7 a8 h8 a9 h9 a10 h10 a11 h11 a12 h12 hc0 hc1 x0 x1 x2 x3 x4 x5 x6 x7 y = x3 (ix3 0 (y 0) (y 1)) := by
  frame_out
  canon_tiles x h
  all_goals
    unfold_payloads
    pointwise
    exact congrArg x3 (by congr 1 <;> apply Fin.ext <;> simp only [h0, h1])

/-- Its output: both contractions under their gates, though each is summed a quarter at a time. -/
theorem oA (hc0 : cond0_0 i) (hc1 : ¬cond0_1 i) (r : Fin 1024) (l : Fin 512) :
    out0_A_8 c i a2 h2 a3 h3 a4 h4 a5 h5 a6 h6 a7 h7 a8 h8 a9 h9 a10 h10 a11 h11 a12 h12 hc0 hc1 x0 x1 x2 x3 x4 x5 x6 x7 (ix2 r l) = Ideal.logistic (x4 (ix2 r l) + x6 (ix2 0 l)) * (∑ k : Fin 2048, x0 (ix2 r k) * x2 (ix3 0 k l))
      + Ideal.logistic (x5 (ix2 r l) + x7 (ix2 0 l)) * (∑ k : Fin 2048, x1 (ix2 r k) * x3 (ix3 0 k l)) := by
  frame_out
  simp only [View.readCov_cons_toLoadRect]
  unfold_payloads
  pointwise
  exact congrArg₂ (· + ·) (congrArg (_ * ·) (Sums.quartersDot2048 x0 x2 r l)) (congrArg (_ * ·) (Sums.quartersDot2048 x1 x3 r l))

/-- A later tile's output, over the weights in scratch. -/
theorem oB (hc0 : ¬cond0_0 i) (hc1 : cond0_1 i) (xs0 xs1 : Vec Ideal S2048x512 .bf16) (r : Fin 1024) (l : Fin 512) :
    out0_B_8 c i a2 h2 a3 h3 a4 h4 a5 h5 a6 h6 a7 h7 a8 h8 a9 h9 a10 h10 a11 h11 a12 h12 hc0 hc1 x0 x1 x2 x3 x4 x5 x6 x7 xs0 xs1 (ix2 r l) = Ideal.logistic (x4 (ix2 r l) + x6 (ix2 0 l)) * (∑ k : Fin 2048, x0 (ix2 r k) * xs0 (ix2 k l))
      + Ideal.logistic (x5 (ix2 r l) + x7 (ix2 0 l)) * (∑ k : Fin 2048, x1 (ix2 r k) * xs1 (ix2 k l)) := by
  frame_out
  pointwise [k0_pay2]

end Cases

/-- Which blocks a grid point reads: the token tile `t % 16` and the column block `t / 16` — of the projections after the
    twelve blocks the attention reads, of the gates' columns and biases the conv mixer's first and the attention's eight blocks
    on. -/
theorem idx : ∀ t : Fin cfg0.N, win0_0.index t = ![t.val % 16, 0] ∧ win0_1.index t = ![t.val % 16, 0] ∧ win0_2.index t = ![0, 0, t.val / 16]
      ∧ win0_3.index t = ![0, 0, t.val / 16] ∧ win0_4.index t = ![t.val % 16, 12 + t.val / 16] ∧ win0_5.index t = ![t.val % 16, 20 + t.val / 16]
      ∧ win0_6.index t = ![0, t.val / 16] ∧ win0_7.index t = ![0, 8 + t.val / 16] :=
  (by decide +kernel : ∀ t : Fin grid0.N, win0_0.index t = ![t.val % 16, 0] ∧ win0_1.index t = ![t.val % 16, 0] ∧ win0_2.index t = ![0, 0, t.val / 16]
      ∧ win0_3.index t = ![0, 0, t.val / 16] ∧ win0_4.index t = ![t.val % 16, 12 + t.val / 16] ∧ win0_5.index t = ![t.val % 16, 20 + t.val / 16]
      ∧ win0_6.index t = ![0, t.val / 16] ∧ win0_7.index t = ![0, 8 + t.val / 16])

/-- The conv mixer's output. -/
abbrev Xa (c : Dev nD) : FVec Ideal S16384x2048 .bf16 := m ((c : Thread nD τ).loc main_arg0)
/-- The attention's output. -/
abbrev Xb (c : Dev nD) : FVec Ideal S16384x2048 .bf16 := m ((c : Thread nD τ).loc main_arg1)
/-- The conv mixer's output weights. -/
abbrev Wa (c : Dev nD) : FVec Ideal S2x2048x4096 .f32 := m ((c : Thread nD τ).loc main_arg2)
/-- The attention's output weights. -/
abbrev Wb (c : Dev nD) : FVec Ideal S2x2048x4096 .f32 := m ((c : Thread nD τ).loc main_arg3)
/-- The projections, whose last 8192 columns are the gates. -/
abbrev P (c : Dev nD) : FVec Ideal S16384x14336 .bf16 := m ((c : Thread nD τ).loc main_arg4)
/-- The gates' biases. -/
abbrev B (c : Dev nD) : FVec Ideal S8192 .f32 := m ((c : Thread nD τ).loc main_arg5)

/-- The tile of the conv mixer's output a point reads. -/
theorem iblk0 (c : Dev nD) (t : Fin cfg0.N) (r : Fin 1024) (k : Fin 2048) (i : Fin 16384) (hi : i.val = t.val % 16 * 1024 + r.val) :
    (iblk m c 0 t : FVec Ideal S1024x2048 .bf16) (ix2 r k) = Xa m c (ix2 i k) := by
  obtain ⟨e0, e1, e2, e3, e4, e5, e6, e7⟩ := idx t
  blk_ext [iblk, V, e0]

/-- The tile of the attention's output. -/
theorem iblk1 (c : Dev nD) (t : Fin cfg0.N) (r : Fin 1024) (k : Fin 2048) (i : Fin 16384) (hi : i.val = t.val % 16 * 1024 + r.val) :
    (iblk m c 1 t : FVec Ideal S1024x2048 .bf16) (ix2 r k) = Xb m c (ix2 i k) := by
  obtain ⟨e0, e1, e2, e3, e4, e5, e6, e7⟩ := idx t
  blk_ext [iblk, V, e1]

/-- The block of the conv mixer's output weights. -/
theorem iblk2 (c : Dev nD) (t : Fin cfg0.N) (k : Fin 2048) (l : Fin 512) (j : Fin 4096) (hj : j.val = t.val / 16 * 512 + l.val) :
    (iblk m c 2 t : FVec Ideal S1x2048x512 .f32) (ix3 0 k l) = Wa m c (ix3 0 k j) := by
  obtain ⟨e0, e1, e2, e3, e4, e5, e6, e7⟩ := idx t
  blk_ext [iblk, V, e2]

/-- The block of the attention's output weights. -/
theorem iblk3 (c : Dev nD) (t : Fin cfg0.N) (k : Fin 2048) (l : Fin 512) (j : Fin 4096) (hj : j.val = t.val / 16 * 512 + l.val) :
    (iblk m c 3 t : FVec Ideal S1x2048x512 .f32) (ix3 0 k l) = Wb m c (ix3 0 k j) := by
  obtain ⟨e0, e1, e2, e3, e4, e5, e6, e7⟩ := idx t
  blk_ext [iblk, V, e3]

/-- The block of the conv mixer's gate. -/
theorem iblk4 (c : Dev nD) (t : Fin cfg0.N) (r : Fin 1024) (l : Fin 512) (i : Fin 16384) (hi : i.val = t.val % 16 * 1024 + r.val)
    (j : Fin 14336) (hj : j.val = 6144 + (t.val / 16 * 512 + l.val)) :
    (iblk m c 4 t : FVec Ideal S1024x512 .bf16) (ix2 r l) = P m c (ix2 i j) := by
  obtain ⟨e0, e1, e2, e3, e4, e5, e6, e7⟩ := idx t
  blk_ext [iblk, V, e4]

/-- The block of the attention's gate. -/
theorem iblk5 (c : Dev nD) (t : Fin cfg0.N) (r : Fin 1024) (l : Fin 512) (i : Fin 16384) (hi : i.val = t.val % 16 * 1024 + r.val)
    (j : Fin 14336) (hj : j.val = 10240 + (t.val / 16 * 512 + l.val)) :
    (iblk m c 5 t : FVec Ideal S1024x512 .bf16) (ix2 r l) = P m c (ix2 i j) := by
  obtain ⟨e0, e1, e2, e3, e4, e5, e6, e7⟩ := idx t
  blk_ext [iblk, V, e5]

/-- The biases as the host hands them over: one row. -/
theorem bias (c : Dev nD) (j : Fin 8192) : (V m c main_v0 : FVec Ideal S1x8192 .f32) (ix2 0 j) = B m c (ix1 j) := by
  entry_read
  pointwise

/-- The block of the conv mixer's biases. -/
theorem iblk6 (c : Dev nD) (t : Fin cfg0.N) (l : Fin 512) (j : Fin 8192) (hj : j.val = t.val / 16 * 512 + l.val) :
    (iblk m c 6 t : FVec Ideal S1x512 .f32) (ix2 0 l) = B m c (ix1 j) := by
  obtain ⟨e0, e1, e2, e3, e4, e5, e6, e7⟩ := idx t
  have e : (win0_6.blk t).view.emb (ix2 0 l) = (ix2 0 j : S1x8192.Idx) := by blk_ext [e6]
  exact (congrArg (V m c main_v0) e).trans (bias m c j)

/-- The block of the attention's biases. -/
theorem iblk7 (c : Dev nD) (t : Fin cfg0.N) (l : Fin 512) (j : Fin 8192) (hj : j.val = 4096 + (t.val / 16 * 512 + l.val)) :
    (iblk m c 7 t : FVec Ideal S1x512 .f32) (ix2 0 l) = B m c (ix1 j) := by
  obtain ⟨e0, e1, e2, e3, e4, e5, e6, e7⟩ := idx t
  have e : (win0_7.blk t).view.emb (ix2 0 l) = (ix2 0 j : S1x8192.Idx) := by blk_ext [e7]
  exact (congrArg (V m c main_v0) e).trans (bias m c j)

/-- What the two weight scratches hold after a point: the casts of its column block. -/
theorem scr (c : Dev nD) (k : Fin 2048) (l : Fin 512) : ∀ (n : Nat) (t : Fin cfg0.N) (j : Fin 4096), n = t.val % 16 →
    j.val = t.val / 16 * 512 + l.val → (outsAt0 m c t.val t.isLt).2.1 (ix2 k l) = Wa m c (ix3 0 k j)
      ∧ (outsAt0 m c t.val t.isLt).2.2 (ix2 k l) = Wb m c (ix3 0 k j) := by
  intro n
  induction n with
  | zero =>
    intro t j ht hj
    rw [outsAt0_A m c t ht.symm (by omega)]
    dsimp only
    rw [sA0, sA1]
    exact ⟨iblk2 m c t k l j hj, iblk3 m c t k l j hj⟩
  | succ n ih =>
    intro t j ht hj
    rw [outsAt0_B m c t (by omega) (by omega)]
    dsimp only
    unfold sout0_B_0 sout0_B_1
    exact ih ⟨t.val - 1, Nat.lt_of_le_of_lt (Nat.sub_le _ _) t.isLt⟩ j (by dsimp only; omega) (by dsimp only; omega)

/-- The value at row `i`, column `j`. -/
def Out (xa xb : FVec Ideal S16384x2048 .bf16) (wa wb : FVec Ideal S2x2048x4096 .f32) (p : FVec Ideal S16384x14336 .bf16) (b : FVec Ideal S8192 .f32)
    (i : Fin 16384) (j : Fin 4096) : EReal :=
  Ideal.logistic (p (ix2 i ⟨6144 + j.val, by omega⟩) + b (ix1 ⟨j.val, by omega⟩)) * (∑ k : Fin 2048, xa (ix2 i k) * wa (ix3 0 k j))
    + Ideal.logistic (p (ix2 i ⟨6144 + (4096 + j.val), by omega⟩) + b (ix1 ⟨4096 + j.val, by omega⟩)) * (∑ k : Fin 2048, xb (ix2 i k) * wb (ix3 0 k j))

/-- What a point stores in its output block. -/
theorem out (c : Dev nD) (t : Fin cfg0.N) (r : Fin 1024) (l : Fin 512) (i : Fin 16384) (j : Fin 4096)
    (hi : i.val = t.val % 16 * 1024 + r.val) (hj : j.val = t.val / 16 * 512 + l.val) :
    (outsAt0 m c t.val t.isLt).1 (ix2 r l) = Out (Xa m c) (Xb m c) (Wa m c) (Wb m c) (P m c) (B m c) i j := by
  have ga := congrArg Ideal.logistic (congrArg₂ (fun a b : EReal => a + b) (iblk4 m c t r l i hi ⟨6144 + j.val, by omega⟩ (by dsimp only; omega))
    (iblk6 m c t l ⟨j.val, by omega⟩ hj))
  have gb := congrArg Ideal.logistic (congrArg₂ (fun a b : EReal => a + b) (iblk5 m c t r l i hi ⟨6144 + (4096 + j.val), by omega⟩ (by dsimp only; omega))
    (iblk7 m c t l ⟨4096 + j.val, by omega⟩ (by dsimp only; omega)))
  by_cases h0 : t.val % 16 = 0
  · rw [outsAt0_A m c t h0 (by omega)]
    dsimp only
    rw [oA]
    exact congrArg₂ (· + ·)
      (congrArg₂ (· * ·) ga (Finset.sum_congr rfl fun k _ => congrArg₂ (· * ·) (iblk0 m c t r k i hi) (iblk2 m c t k l j hj)))
      (congrArg₂ (· * ·) gb (Finset.sum_congr rfl fun k _ => congrArg₂ (· * ·) (iblk1 m c t r k i hi) (iblk3 m c t k l j hj)))
  · rw [outsAt0_B m c t h0 (by omega)]
    dsimp only
    rw [oB]
    have prev (k : Fin 2048) := scr m c k l _ ⟨t.val - 1, Nat.lt_of_le_of_lt (Nat.sub_le _ _) t.isLt⟩ j rfl (by dsimp only; omega)
    exact congrArg₂ (· + ·)
      (congrArg₂ (· * ·) ga (Finset.sum_congr rfl fun k _ => congrArg₂ (· * ·) (iblk0 m c t r k i hi) (prev k).1))
      (congrArg₂ (· * ·) gb (Finset.sum_congr rfl fun k _ => congrArg₂ (· * ·) (iblk1 m c t r k i hi) (prev k).2))

/-- What the kernel leaves in its output array, element by element. -/
theorem G (c : Dev nD) (i : S16384x4096.Idx) : (Value.G8 m c : FVec Ideal S16384x4096 .bf16) i
    = Out (Xa m c) (Xb m c) (Wa m c) (Wb m c) (P m c) (B m c) (i 0) (i 1) := by
  idx_vars i
  have hN : cfg0.N = 128 := N_0
  have hp : Value.pt8Of (ix2 i0 i1) < cfg0.N := by
    rw [hN]; show 1 * (i0.val / 1024 - 0) + 16 * (i1.val / 512 - 0) < 128; omega
  unfold Value.G8
  rw [dif_pos hp, ← Value.outsAt0_sweep m c _ hp]
  have e : Value.loc8Of (ix2 i0 i1) = ix2 ⟨i0.val % 1024, by omega⟩ ⟨i1.val % 512, by omega⟩ := eq_ix2 _
  rw [e]
  refine out m c ⟨_, hp⟩ _ _ i0 i1 ?_ ?_
  · show i0.val = (1 * (i0.val / 1024 - 0) + 16 * (i1.val / 512 - 0)) % 16 * 1024 + i0.val % 1024
    omega
  · show i1.val = (1 * (i0.val / 1024 - 0) + 16 * (i1.val / 512 - 0)) / 16 * 512 + i1.val % 512
    omega

/-- The reference's result, element by element: the same value. -/
theorem ref (xa xb : FVec Ideal S16384x2048 .bf16) (wa wb : FVec Ideal S2x2048x4096 .f32) (p : FVec Ideal S16384x14336 .bf16) (b : FVec Ideal S8192 .f32)
    (i : S16384x4096.Idx) :
    (Cert.MergeRefIdeal.Read.val_main_v24 (F := Ideal) xa xb wa wb p b : FVec Ideal S16384x4096 .bf16) i = Out xa xb wa wb p b (i 0) (i 1) := by
  idx_vars i
  open Cert.MergeRefIdeal.Read in
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0]
  rfl

/-- The kernel over the reals computes what the reference computes. -/
theorem algebraic : algebraic_MergeIdeal_MergeRefIdeal := by
  intro m ρ m' ρ' _ hagree
  refine ⟨_, Value.run (F := Ideal) m ρ, ?_⟩
  refine (θ_run Cert.MergeRefIdeal.defs _ _).mono (fun _ h c => ⟨?_, (h c).2⟩) (Cert.MergeRefIdeal.Value.run (F := Ideal) m' ρ')
  rw [(h c).1, Cert.MergeRefIdeal.Read.val_main_v24_eq]
  simp only [hagree c]
  funext i
  exact (ref (Xa m c) (Xb m c) (Wa m c) (Wb m c) (P m c) (B m c) i).trans (G m c i).symm

end Cert.MergeIdeal.Sum
-- ==== Proof.Norm.lean ====
/- The first norm: what the kernel `_norm_kernel` leaves in its output array, element by element, and that the plain reference
   computes the same. Each grid point takes 256 rows. -/
module

public import proofs.«01_k».proof.Defs
public import proofs.«01_k».proof.Proof.Gen.NormIdeal.Value
public import proofs.«01_k».proof.Proof.Gen.NormRefIdeal.Read
public import proofs.«01_k».proof.Proof.Sums
public import Idealize.ShloMosaic.Lib.Pipeline.ValueKit
public import Idealize.ShloMosaic.Lib.Pipeline.ReadBack
public import Idealize.ShloMosaic.Lib.Pointwise

@[expose] public section

set_option maxRecDepth 16384
noncomputable section

namespace Cert.NormIdeal.Sum

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ)

/-- Which blocks a grid point reads and writes: its 256 rows, and the whole gain. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The residual stream. -/
abbrev X (c : Dev nD) : FVec Ideal S16384x4096 .f32 := m ((c : Thread nD τ).loc main_arg0)
/-- The norm's gain. -/
abbrev W (c : Dev nD) : FVec Ideal S4096 .f32 := m ((c : Thread nD τ).loc main_arg1)

/-- The gain as the host hands it over: one row. -/
theorem gain (c : Dev nD) (j : Fin 4096) : (V m c main_v0 : FVec Ideal S1x4096 .f32) (ix2 0 j) = W m c (ix1 j) := by
  entry_read
  pointwise

/-- The gain's block at a point. -/
theorem iblk1 (c : Dev nD) (t : Fin cfg0.N) (j : Fin 4096) : (iblk m c 1 t : FVec Ideal S1x4096 .f32) (ix2 0 j) = W m c (ix1 j) := by
  obtain ⟨e0, e1, e2⟩ := idx t
  have e : (win0_1.blk t).view.emb (ix2 0 j) = (ix2 0 j : S1x4096.Idx) := by blk_ext [e1]
  exact (congrArg (V m c main_v0) e).trans (gain m c j)

/-- The block of rows at a point. -/
theorem iblk0 (c : Dev nD) (t : Fin cfg0.N) (r : Fin 256) (k : Fin 4096) (i : Fin 16384) (hi : i.val = t.val * 256 + r.val) :
    (iblk m c 0 t : FVec Ideal S256x4096 .f32) (ix2 r k) = X m c (ix2 i k) := by
  obtain ⟨e0, e1, e2⟩ := idx t
  blk_ext [iblk, V, e0]

/-- What the body computes of its blocks. -/
theorem body (x0 : Vec Ideal S256x4096 .f32) (x1 : Vec Ideal S1x4096 .f32) (r : Fin 256) (j : Fin 4096) :
    out0_2 x0 x1 (ix2 r j) = Sums.rms (fun k => x0 (ix2 r k)) (x1 (ix2 0 j)) j := by
  frame_out
  pointwise [k0_pay1]
  rfl

/-- The norm of every row. -/
def Out (x : FVec Ideal S16384x4096 .f32) (w : FVec Ideal S4096 .f32) : FVec Ideal S16384x4096 .bf16 :=
  fun i => Sums.rms (fun k => x (ix2 (i 0) k)) (w (ix1 (i 1))) (i 1)

/-- What the kernel leaves in its output array. -/
theorem G (c : Dev nD) : (dats m 0 c).arrAt 2 cfg0.N = Out (X m c) (W m c) := by
  refine (dats m 0 c).arrAt_eq_of_covers 2 _ (by decide +kernel) fun t hf y => ?_
  have ht : t.val < 64 := Nat.lt_of_lt_of_eq t.isLt N_0
  obtain ⟨e0, e1, e2⟩ := idx t
  blk_simp
  rw [after0_2]
  idx_vars y
  have e : (win0_2.blk t).view.emb (ix2 y0 y1) = (ix2 ⟨t.val * 256 + y0.val, by omega⟩ y1 : S16384x4096.Idx) := by blk_ext [e2]
  refine (body _ _ y0 y1).trans ?_
  refine Eq.trans ?_ (congrArg (Out (X m c) (W m c)) e).symm
  exact congrArg₂ (Sums.rms · · y1) (funext fun k => iblk0 m c t y0 k _ rfl) (iblk1 m c t y1)

/-- The reference's result, element by element: the same norm. -/
theorem ref (x : FVec Ideal S16384x4096 .f32) (w : FVec Ideal S4096 .f32) (i : S16384x4096.Idx) :
    (Cert.NormRefIdeal.Read.val_main_v13 (F := Ideal) x w : FVec Ideal S16384x4096 .bf16) i = Out x w i := by
  idx_vars i
  open Cert.NormRefIdeal.Read in
  pointwise [val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  rfl

/-- The kernel over the reals computes what the reference computes. -/
theorem algebraic : algebraic_NormIdeal_NormRefIdeal := by
  intro m ρ m' ρ' _ hagree
  refine ⟨_, Value.run_blocks (F := Ideal) m ρ, ?_⟩
  refine (θ_run Cert.NormRefIdeal.defs _ _).mono (fun _ h c => ⟨?_, (h c).2⟩) (Cert.NormRefIdeal.Value.run (F := Ideal) m' ρ')
  rw [(h c).1, G m c, Cert.NormRefIdeal.Read.val_main_v13_eq]
  simp only [hagree c]
  funext i
  exact ref (X m c) (W m c) i

end Cert.NormIdeal.Sum
-- ==== Proof.ResidNorm.lean ====
/- A residual and the norm that follows it: what the kernel `_resid_norm_kernel` leaves in its two output arrays, element by
   element, and that the plain reference computes the same. Each grid point takes 256 rows. -/
module

public import proofs.«01_k».proof.Defs
public import proofs.«01_k».proof.Proof.Gen.ResidNormIdeal.Value
public import proofs.«01_k».proof.Proof.Gen.ResidNormRefIdeal.Read
public import proofs.«01_k».proof.Proof.Sums
public import Idealize.ShloMosaic.Lib.Pipeline.ValueKit
public import Idealize.ShloMosaic.Lib.Pipeline.ReadBack
public import Idealize.ShloMosaic.Lib.Pointwise

@[expose] public section

set_option maxRecDepth 16384
noncomputable section

namespace Cert.ResidNormIdeal.Sum

open Cert.ResidNormIdeal Cert.ResidNormIdeal.Gen Idealize.ShloMosaic Idealize.ShloMosaic.TcCoe Idealize.SL.Sem
open Idealize.ShloMosaic.Pipeline (Dat)

variable (m : (ℓ : Loc nD τ sig) → Buf (Elt Ideal) ℓ)

/-- Which blocks a grid point reads and writes: its 256 rows, and the gains whole. -/
theorem idx : ∀ t : Fin cfg0.N, win0_0.index t = ![t.val, 0] ∧ win0_1.index t = ![t.val, 0] ∧ win0_2.index t = ![0, 0]
      ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0] ∧ win0_2.index t = ![0, 0]
      ∧ win0_3.index t = ![0, 0] ∧ win0_4.index t = ![t.val, 0] ∧ win0_5.index t = ![t.val, 0])

/-- The residual stream. -/
abbrev X (c : Dev nD) : FVec Ideal S16384x4096 .f32 := m ((c : Thread nD τ).loc main_arg0)
/-- The branch's output. -/
abbrev Y (c : Dev nD) : FVec Ideal S16384x4096 .bf16 := m ((c : Thread nD τ).loc main_arg1)
/-- The gain of the norm of the branch's output. -/
abbrev W0 (c : Dev nD) : FVec Ideal S4096 .f32 := m ((c : Thread nD τ).loc main_arg2)
/-- The gain of the norm that follows. -/
abbrev W1 (c : Dev nD) : FVec Ideal S4096 .f32 := m ((c : Thread nD τ).loc main_arg3)

/-- A block of rows of the residual stream. -/
theorem iblk0 (c : Dev nD) (t : Fin cfg0.N) (r : Fin 256) (k : Fin 4096) (i : Fin 16384) (hi : i.val = t.val * 256 + r.val) :
    (iblk m c 0 t : FVec Ideal S256x4096 .f32) (ix2 r k) = X m c (ix2 i k) := by
  obtain ⟨e0, e1, e2, e3, e4, e5⟩ := idx t
  blk_ext [iblk, V, e0]

/-- The same rows of the branch's output. -/
theorem iblk1 (c : Dev nD) (t : Fin cfg0.N) (r : Fin 256) (k : Fin 4096) (i : Fin 16384) (hi : i.val = t.val * 256 + r.val) :
    (iblk m c 1 t : FVec Ideal S256x4096 .bf16) (ix2 r k) = Y m c (ix2 i k) := by
  obtain ⟨e0, e1, e2, e3, e4, e5⟩ := idx t
  blk_ext [iblk, V, e1]

/-- The gain of the norm of the branch's output, as the host hands it over: one row. -/
theorem gain0 (c : Dev nD) (j : Fin 4096) : (V m c main_v0 : FVec Ideal S1x4096 .f32) (ix2 0 j) = W0 m c (ix1 j) := by
  entry_read
  pointwise

/-- Its block at a point. -/
theorem iblk2 (c : Dev nD) (t : Fin cfg0.N) (j : Fin 4096) : (iblk m c 2 t : FVec Ideal S1x4096 .f32) (ix2 0 j) = W0 m c (ix1 j) := by
  obtain ⟨e0, e1, e2, e3, e4, e5⟩ := idx t
  have e : (win0_2.blk t).view.emb (ix2 0 j) = (ix2 0 j : S1x4096.Idx) := by blk_ext [e2]
  exact (congrArg (V m c main_v0) e).trans (gain0 m c j)

/-- The gain of the norm that follows, as the host hands it over: one row. -/
theorem gain1 (c : Dev nD) (j : Fin 4096) : (V m c main_v1 : FVec Ideal S1x4096 .f32) (ix2 0 j) = W1 m c (ix1 j) := by
  entry_read
  pointwise

/-- Its block at a point. -/
theorem iblk3 (c : Dev nD) (t : Fin cfg0.N) (j : Fin 4096) : (iblk m c 3 t : FVec Ideal S1x4096 .f32) (ix2 0 j) = W1 m c (ix1 j) := by
  obtain ⟨e0, e1, e2, e3, e4, e5⟩ := idx t
  have e : (win0_3.blk t).view.emb (ix2 0 j) = (ix2 0 j : S1x4096.Idx) := by blk_ext [e3]
  exact (congrArg (V m c main_v1) e).trans (gain1 m c j)

/-- One row of the new residual stream: the old one and the norm of the branch's output. -/
def row (x y g : Fin 4096 → EReal) (j : Fin 4096) : EReal := x j + Sums.rms y (g j) j

/-- What the body computes of its blocks for the residual stream. -/
theorem body0 (x0 : Vec Ideal S256x4096 .f32) (x1 : Vec Ideal S256x4096 .bf16) (x2 : Vec Ideal S1x4096 .f32) (x3 : Vec Ideal S1x4096 .f32) (r : Fin 256) (j : Fin 4096) :
    out0_4 x0 x1 x2 x3 (ix2 r j) = row (fun k => x0 (ix2 r k)) (fun k => x1 (ix2 r k)) (fun k => x2 (ix2 0 k)) j := by
  frame_out
  pointwise [k0_pay1]
  rfl

/-- The stored rows of the residual stream, of the blocks. -/
theorem pay1 (x0 : Vec Ideal S256x4096 .f32) (x1 : Vec Ideal S256x4096 .bf16) (x2 : Vec Ideal S1x4096 .f32) (r : Fin 256) (j : Fin 4096) :
    k0_pay1 x0 x1 x2 (ix2 r j) = row (fun k => x0 (ix2 r k)) (fun k => x1 (ix2 r k)) (fun k => x2 (ix2 0 k)) j := by
  pointwise [k0_pay1]
  rfl

/-- What the body computes of its blocks for the normed result: the norm of the new row. -/
theorem body1 (x0 : Vec Ideal S256x4096 .f32) (x1 : Vec Ideal S256x4096 .bf16) (x2 : Vec Ideal S1x4096 .f32) (x3 : Vec Ideal S1x4096 .f32) (r : Fin 256) (j : Fin 4096) :
    out0_5 x0 x1 x2 x3 (ix2 r j) = Sums.rms (row (fun k => x0 (ix2 r k)) (fun k => x1 (ix2 r k)) (fun k => x2 (ix2 0 k))) (x3 (ix2 0 j)) j := by
  frame_out
  pointwise [k0_pay2, pay1]
  rfl

/-- The new residual stream. -/
def Out0 (x : FVec Ideal S16384x4096 .f32) (y : FVec Ideal S16384x4096 .bf16) (w0 : FVec Ideal S4096 .f32) : FVec Ideal S16384x4096 .f32 :=
  fun i => row (fun k => x (ix2 (i 0) k)) (fun k => y (ix2 (i 0) k)) (fun k => w0 (ix1 k)) (i 1)

/-- What the kernel leaves in its first output array. -/
theorem G0 (c : Dev nD) : (dats m 0 c).arrAt 4 cfg0.N = Out0 (X m c) (Y m c) (W0 m c) := by
  refine (dats m 0 c).arrAt_eq_of_covers 4 _ (by decide +kernel) fun t hf y => ?_
  have ht : t.val < 64 := Nat.lt_of_lt_of_eq t.isLt N_0
  obtain ⟨e0, e1, e2, e3, e4, e5⟩ := idx t
  blk_simp
  rw [after0_4]
  idx_vars y
  have e : (win0_4.blk t).view.emb (ix2 y0 y1) = (ix2 ⟨t.val * 256 + y0.val, by omega⟩ y1 : S16384x4096.Idx) := by blk_ext [e4]
  refine (body0 _ _ _ _ y0 y1).trans ?_
  refine Eq.trans ?_ (congrArg (Out0 (X m c) (Y m c) (W0 m c)) e).symm
  exact congrFun (congr (congrArg₂ row (funext fun k => iblk0 m c t y0 k _ rfl) (funext fun k => iblk1 m c t y0 k _ rfl)) (funext fun k => iblk2 m c t k)) y1

/-- Its norm. -/
def Out1 (x : FVec Ideal S16384x4096 .f32) (y : FVec Ideal S16384x4096 .bf16) (w0 w1 : FVec Ideal S4096 .f32) : FVec Ideal S16384x4096 .bf16 :=
  fun i => Sums.rms (row (fun k => x (ix2 (i 0) k)) (fun k => y (ix2 (i 0) k)) (fun k => w0 (ix1 k))) (w1 (ix1 (i 1))) (i 1)

/-- What the kernel leaves in its second. -/
theorem G1 (c : Dev nD) : (dats m 0 c).arrAt 5 cfg0.N = Out1 (X m c) (Y m c) (W0 m c) (W1 m c) := by
  refine (dats m 0 c).arrAt_eq_of_covers 5 _ (by decide +kernel) fun t hf y => ?_
  have ht : t.val < 64 := Nat.lt_of_lt_of_eq t.isLt N_0
  obtain ⟨e0, e1, e2, e3, e4, e5⟩ := idx t
  blk_simp
  rw [after0_5]
  idx_vars y
  have e : (win0_5.blk t).view.emb (ix2 y0 y1) = (ix2 ⟨t.val * 256 + y0.val, by omega⟩ y1 : S16384x4096.Idx) := by blk_ext [e5]
  refine (body1 _ _ _ _ y0 y1).trans ?_
  refine Eq.trans ?_ (congrArg (Out1 (X m c) (Y m c) (W0 m c) (W1 m c)) e).symm
  exact congrArg₂ (Sums.rms · · y1) (congr (congrArg₂ row (funext fun k => iblk0 m c t y0 k _ rfl) (funext fun k => iblk1 m c t y0 k _ rfl))
    (funext fun k => iblk2 m c t k)) (iblk3 m c t y1)

/-- The reference's first result, element by element: the same value. -/
theorem ref0 (x : FVec Ideal S16384x4096 .f32) (y : FVec Ideal S16384x4096 .bf16) (w0 : FVec Ideal S4096 .f32) (i : S16384x4096.Idx) :
    (Cert.ResidNormRefIdeal.Read.val_main_v14 (F := Ideal) x y w0 : FVec Ideal S16384x4096 .f32) i = Out0 x y w0 i := by
  idx_vars i
  open Cert.ResidNormRefIdeal.Read in
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's second result, element by element: the norm of the first. -/
theorem ref1 (x : FVec Ideal S16384x4096 .f32) (y : FVec Ideal S16384x4096 .bf16) (w0 w1 : FVec Ideal S4096 .f32) (i : S16384x4096.Idx) :
    (Cert.ResidNormRefIdeal.Read.val_main_v28 (F := Ideal) x y w0 w1 : FVec Ideal S16384x4096 .bf16) i = Out1 x y w0 w1 i := by
  idx_vars i
  open Cert.ResidNormRefIdeal.Read in
  pointwise [val_main_v28, val_main_v27, val_main_v26, val_main_v25, val_main_v24, val_main_v23, val_main_v22, val_main_v21, val_main_v20, val_main_v19, val_main_v18, val_main_v17, val_main_v16, val_main_v15, val_main_cst_2, val_main_cst_3, val_main_cst_4, ref0]
  rfl

/-- The kernel over the reals computes what the reference computes. -/
theorem algebraic : algebraic_ResidNormIdeal_ResidNormRefIdeal := by
  intro m ρ m' ρ' _ hagree
  refine ⟨_, _, Value.run_blocks (F := Ideal) m ρ, ?_⟩
  refine (θ_run Cert.ResidNormRefIdeal.defs _ _).mono (fun _ h c => ⟨?_, ?_, (h c).2.2⟩) (Cert.ResidNormRefIdeal.Value.run (F := Ideal) m' ρ')
  · rw [(h c).1, G0 m c, Cert.ResidNormRefIdeal.Read.val_main_v14_eq]
    simp only [hagree c]
    exact funext (ref0 (X m c) (Y m c) (W0 m c))
  · rw [(h c).2.1, G1 m c, Cert.ResidNormRefIdeal.Read.val_main_v28_eq]
    simp only [hagree c]
    exact funext (ref1 (X m c) (Y m c) (W0 m c) (W1 m c))

end Cert.ResidNormIdeal.Sum
-- ==== Proof.Resid.lean ====
/- The last residual: what the kernel `_resid_kernel` leaves in its output array, element by element, and that the plain
   reference computes the same. Each grid point takes 256 rows. -/
module

public import proofs.«01_k».proof.Defs
public import proofs.«01_k».proof.Proof.Gen.ResidIdeal.Value
public import proofs.«01_k».proof.Proof.Gen.ResidRefIdeal.Read
public import proofs.«01_k».proof.Proof.Sums
public import Idealize.ShloMosaic.Lib.Pipeline.ValueKit
public import Idealize.ShloMosaic.Lib.Pipeline.ReadBack
public import Idealize.ShloMosaic.Lib.Pointwise

@[expose] public section

set_option maxRecDepth 16384
noncomputable section

namespace Cert.ResidIdeal.Sum

open Cert.ResidIdeal Cert.ResidIdeal.Gen Idealize.ShloMosaic Idealize.ShloMosaic.TcCoe Idealize.SL.Sem
open Idealize.ShloMosaic.Pipeline (Dat)

variable (m : (ℓ : Loc nD τ sig) → Buf (Elt Ideal) ℓ)

/-- Which blocks a grid point reads and writes: its 256 rows, and the gains whole. -/
theorem idx : ∀ t : Fin cfg0.N, win0_0.index t = ![t.val, 0] ∧ win0_1.index t = ![t.val, 0] ∧ win0_2.index t = ![0, 0]
      ∧ win0_3.index t = ![t.val, 0] :=
  (by decide +kernel : ∀ t : Fin grid0.N, win0_0.index t = ![t.val, 0] ∧ win0_1.index t = ![t.val, 0] ∧ win0_2.index t = ![0, 0]
      ∧ win0_3.index t = ![t.val, 0])

/-- The residual stream. -/
abbrev X (c : Dev nD) : FVec Ideal S16384x4096 .f32 := m ((c : Thread nD τ).loc main_arg0)
/-- The branch's output. -/
abbrev Y (c : Dev nD) : FVec Ideal S16384x4096 .bf16 := m ((c : Thread nD τ).loc main_arg1)
/-- The gain of the norm of the branch's output. -/
abbrev W0 (c : Dev nD) : FVec Ideal S4096 .f32 := m ((c : Thread nD τ).loc main_arg2)

/-- A block of rows of the residual stream. -/
theorem iblk0 (c : Dev nD) (t : Fin cfg0.N) (r : Fin 256) (k : Fin 4096) (i : Fin 16384) (hi : i.val = t.val * 256 + r.val) :
    (iblk m c 0 t : FVec Ideal S256x4096 .f32) (ix2 r k) = X m c (ix2 i k) := by
  obtain ⟨e0, e1, e2, e3⟩ := idx t
  blk_ext [iblk, V, e0]

/-- The same rows of the branch's output. -/
theorem iblk1 (c : Dev nD) (t : Fin cfg0.N) (r : Fin 256) (k : Fin 4096) (i : Fin 16384) (hi : i.val = t.val * 256 + r.val) :
    (iblk m c 1 t : FVec Ideal S256x4096 .bf16) (ix2 r k) = Y m c (ix2 i k) := by
  obtain ⟨e0, e1, e2, e3⟩ := idx t
  blk_ext [iblk, V, e1]

/-- The gain of the norm of the branch's output, as the host hands it over: one row. -/
theorem gain0 (c : Dev nD) (j : Fin 4096) : (V m c main_v0 : FVec Ideal S1x4096 .f32) (ix2 0 j) = W0 m c (ix1 j) := by
  entry_read
  pointwise

/-- Its block at a point. -/
theorem iblk2 (c : Dev nD) (t : Fin cfg0.N) (j : Fin 4096) : (iblk m c 2 t : FVec Ideal S1x4096 .f32) (ix2 0 j) = W0 m c (ix1 j) := by
  obtain ⟨e0, e1, e2, e3⟩ := idx t
  have e : (win0_2.blk t).view.emb (ix2 0 j) = (ix2 0 j : S1x4096.Idx) := by blk_ext [e2]
  exact (congrArg (V m c main_v0) e).trans (gain0 m c j)

/-- One row of the new residual stream: the old one and the norm of the branch's output. -/
def row (x y g : Fin 4096 → EReal) (j : Fin 4096) : EReal := x j + Sums.rms y (g j) j

/-- What the body computes of its blocks for the residual stream. -/
theorem body0 (x0 : Vec Ideal S256x4096 .f32) (x1 : Vec Ideal S256x4096 .bf16) (x2 : Vec Ideal S1x4096 .f32) (r : Fin 256) (j : Fin 4096) :
    out0_3 x0 x1 x2 (ix2 r j) = row (fun k => x0 (ix2 r k)) (fun k => x1 (ix2 r k)) (fun k => x2 (ix2 0 k)) j := by
  frame_out
  pointwise [k0_pay1]
  rfl

/-- The new residual stream. -/
def Out0 (x : FVec Ideal S16384x4096 .f32) (y : FVec Ideal S16384x4096 .bf16) (w0 : FVec Ideal S4096 .f32) : FVec Ideal S16384x4096 .f32 :=
  fun i => row (fun k => x (ix2 (i 0) k)) (fun k => y (ix2 (i 0) k)) (fun k => w0 (ix1 k)) (i 1)

/-- What the kernel leaves in its output array. -/
theorem G0 (c : Dev nD) : (dats m 0 c).arrAt 3 cfg0.N = Out0 (X m c) (Y m c) (W0 m c) := by
  refine (dats m 0 c).arrAt_eq_of_covers 3 _ (by decide +kernel) fun t hf y => ?_
  have ht : t.val < 64 := Nat.lt_of_lt_of_eq t.isLt N_0
  obtain ⟨e0, e1, e2, e3⟩ := idx t
  blk_simp
  rw [after0_3]
  idx_vars y
  have e : (win0_3.blk t).view.emb (ix2 y0 y1) = (ix2 ⟨t.val * 256 + y0.val, by omega⟩ y1 : S16384x4096.Idx) := by blk_ext [e3]
  refine (body0 _ _ _ y0 y1).trans ?_
  refine Eq.trans ?_ (congrArg (Out0 (X m c) (Y m c) (W0 m c)) e).symm
  exact congrFun (congr (congrArg₂ row (funext fun k => iblk0 m c t y0 k _ rfl) (funext fun k => iblk1 m c t y0 k _ rfl)) (funext fun k => iblk2 m c t k)) y1

/-- The reference's result, element by element: the same value. -/
theorem ref0 (x : FVec Ideal S16384x4096 .f32) (y : FVec Ideal S16384x4096 .bf16) (w0 : FVec Ideal S4096 .f32) (i : S16384x4096.Idx) :
    (Cert.ResidRefIdeal.Read.val_main_v14 (F := Ideal) x y w0 : FVec Ideal S16384x4096 .f32) i = Out0 x y w0 i := by
  idx_vars i
  open Cert.ResidRefIdeal.Read in
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The kernel over the reals computes what the reference computes. -/
theorem algebraic : algebraic_ResidIdeal_ResidRefIdeal := by
  intro m ρ m' ρ' _ hagree
  refine ⟨_, Value.run_blocks (F := Ideal) m ρ, ?_⟩
  refine (θ_run Cert.ResidRefIdeal.defs _ _).mono (fun _ h c => ⟨?_, (h c).2⟩) (Cert.ResidRefIdeal.Value.run (F := Ideal) m' ρ')
  rw [(h c).1, G0 m c, Cert.ResidRefIdeal.Read.val_main_v14_eq]
  simp only [hagree c]
  exact funext (ref0 (X m c) (Y m c) (W0 m c))

end Cert.ResidIdeal.Sum
-- ==== Proof.lean ====
/- The certificate: every claim of the statement. The value claims are proved in one module per call under `proof/Proof/`; the rest is
   each program's own run. -/
module

public import proofs.«01_k».proof.Defs
public import proofs.«01_k».proof.Proof.Gen.Conv.Frame
public import proofs.«01_k».proof.Proof.Gen.ConvIdeal.Frame
public import proofs.«01_k».proof.Proof.Gen.ConvRefIdeal.Run
public import proofs.«01_k».proof.Proof.Conv
public import proofs.«01_k».proof.Proof.Gen.FfnIn.Frame
public import proofs.«01_k».proof.Proof.Gen.FfnInIdeal.Frame
public import proofs.«01_k».proof.Proof.Gen.FfnInRefIdeal.Run
public import proofs.«01_k».proof.Proof.FfnIn
public import proofs.«01_k».proof.Proof.Gen.InProj.Frame
public import proofs.«01_k».proof.Proof.Gen.InProjIdeal.Frame
public import proofs.«01_k».proof.Proof.Gen.InProjRefIdeal.Run
public import proofs.«01_k».proof.Proof.InProj
public import proofs.«01_k».proof.Proof.Gen.FfnOut.Frame
public import proofs.«01_k».proof.Proof.Gen.FfnOutIdeal.Frame
public import proofs.«01_k».proof.Proof.Gen.FfnOutRefIdeal.Run
public import proofs.«01_k».proof.Proof.FfnOut
public import proofs.«01_k».proof.Proof.Gen.MixOut.Frame
public import proofs.«01_k».proof.Proof.Gen.MixOutIdeal.Frame
public import proofs.«01_k».proof.Proof.Gen.MixOutRefIdeal.Run
public import proofs.«01_k».proof.Proof.MixOut
public import proofs.«01_k».proof.Proof.Gen.Merge.Frame
public import proofs.«01_k».proof.Proof.Gen.MergeIdeal.Frame
public import proofs.«01_k».proof.Proof.Gen.MergeRefIdeal.Run
public import proofs.«01_k».proof.Proof.Merge
public import proofs.«01_k».proof.Proof.Gen.Norm.Frame
public import proofs.«01_k».proof.Proof.Gen.NormIdeal.Frame
public import proofs.«01_k».proof.Proof.Gen.NormRefIdeal.Run
public import proofs.«01_k».proof.Proof.Norm
public import proofs.«01_k».proof.Proof.Gen.ResidNorm.Frame
public import proofs.«01_k».proof.Proof.Gen.ResidNormIdeal.Frame
public import proofs.«01_k».proof.Proof.Gen.ResidNormRefIdeal.Run
public import proofs.«01_k».proof.Proof.ResidNorm
public import proofs.«01_k».proof.Proof.Gen.Resid.Frame
public import proofs.«01_k».proof.Proof.Gen.ResidIdeal.Frame
public import proofs.«01_k».proof.Proof.Gen.ResidRefIdeal.Run
public import proofs.«01_k».proof.Proof.Resid
public import Idealize.ShloMosaic.Adequacy
public import Idealize.ShloMosaic.Init
public import Idealize.ShloMosaic.Lib.Quiescent

@[expose] public section

noncomputable section

namespace Cert.Proof

open Idealize.ShloMosaic Idealize.SL.Sem

/-- The reference of `Conv` ends with every semaphore at zero and its arguments as they were. -/
theorem quiescent_ConvRefIdeal : quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The reference of `FfnIn` ends with every semaphore at zero and its arguments as they were. -/
theorem quiescent_FfnInRefIdeal : quiescent_FfnInRefIdeal := fun m ρ _ =>
  (θ_run Cert.FfnInRefIdeal.defs _ _).mono (fun r h => ⟨fun c => (h c).2, sem_eq_zero_of_no_sems (by decide) r.2⟩)
    (Cert.FfnInRefIdeal.Value.run (F := Ideal) m ρ)

/-- The reference of `InProj` ends with every semaphore at zero and its arguments as they were. -/
theorem quiescent_InProjRefIdeal : quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The reference of `FfnOut` ends with every semaphore at zero and its arguments as they were. -/
theorem quiescent_FfnOutRefIdeal : quiescent_FfnOutRefIdeal := fun m ρ _ =>
  (θ_run Cert.FfnOutRefIdeal.defs _ _).mono (fun r h => ⟨fun c => (h c).2, sem_eq_zero_of_no_sems (by decide) r.2⟩)
    (Cert.FfnOutRefIdeal.Value.run (F := Ideal) m ρ)

/-- The reference of `MixOut` ends with every semaphore at zero and its arguments as they were. -/
theorem quiescent_MixOutRefIdeal : quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

/-- The reference of `Merge` ends with every semaphore at zero and its arguments as they were. -/
theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The reference of `Norm` ends with every semaphore at zero and its arguments as they were. -/
theorem quiescent_NormRefIdeal : quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The reference of `ResidNorm` ends with every semaphore at zero and its arguments as they were. -/
theorem quiescent_ResidNormRefIdeal : quiescent_ResidNormRefIdeal := fun m ρ _ =>
  (θ_run Cert.ResidNormRefIdeal.defs _ _).mono (fun r h => ⟨fun c => (h c).2.2, sem_eq_zero_of_no_sems (by decide) r.2⟩)
    (Cert.ResidNormRefIdeal.Value.run (F := Ideal) m ρ)

/-- The reference of `Resid` ends with every semaphore at zero and its arguments as they were. -/
theorem quiescent_ResidRefIdeal : quiescent_ResidRefIdeal := fun m ρ _ =>
  (θ_run Cert.ResidRefIdeal.defs _ _).mono (fun r h => ⟨fun c => (h c).2, sem_eq_zero_of_no_sems (by decide) r.2⟩)
    (Cert.ResidRefIdeal.Value.run (F := Ideal) m ρ)

/-- Everything the certificate claims. -/
theorem claim : Cert.Claim := ⟨Cert.Conv.Gen.facts, Cert.ConvIdeal.Gen.facts, Cert.ConvRefIdeal.Gen.facts,
  Cert.FfnIn.Gen.facts, Cert.FfnInIdeal.Gen.facts, Cert.FfnInRefIdeal.Gen.facts,
  Cert.InProj.Gen.facts, Cert.InProjIdeal.Gen.facts, Cert.InProjRefIdeal.Gen.facts,
  Cert.FfnOut.Gen.facts, Cert.FfnOutIdeal.Gen.facts, Cert.FfnOutRefIdeal.Gen.facts,
  Cert.MixOut.Gen.facts, Cert.MixOutIdeal.Gen.facts, Cert.MixOutRefIdeal.Gen.facts,
  Cert.Merge.Gen.facts, Cert.MergeIdeal.Gen.facts, Cert.MergeRefIdeal.Gen.facts,
  Cert.Norm.Gen.facts, Cert.NormIdeal.Gen.facts, Cert.NormRefIdeal.Gen.facts,
  Cert.ResidNorm.Gen.facts, Cert.ResidNormIdeal.Gen.facts, Cert.ResidNormRefIdeal.Gen.facts,
  Cert.Resid.Gen.facts, Cert.ResidIdeal.Gen.facts, Cert.ResidRefIdeal.Gen.facts,
  fun m ρ _ => Cert.Conv.Gen.frame m ρ, fun m ρ _ => Cert.ConvIdeal.Gen.frame m ρ, quiescent_ConvRefIdeal,
  fun m ρ _ => Cert.FfnIn.Gen.frame m ρ, fun m ρ _ => Cert.FfnInIdeal.Gen.frame m ρ, quiescent_FfnInRefIdeal,
  fun m ρ _ => Cert.InProj.Gen.frame m ρ, fun m ρ _ => Cert.InProjIdeal.Gen.frame m ρ, quiescent_InProjRefIdeal,
  fun m ρ _ => Cert.FfnOut.Gen.frame m ρ, fun m ρ _ => Cert.FfnOutIdeal.Gen.frame m ρ, quiescent_FfnOutRefIdeal,
  fun m ρ _ => Cert.MixOut.Gen.frame m ρ, fun m ρ _ => Cert.MixOutIdeal.Gen.frame m ρ, quiescent_MixOutRefIdeal,
  fun m ρ _ => Cert.Merge.Gen.frame m ρ, fun m ρ _ => Cert.MergeIdeal.Gen.frame m ρ, quiescent_MergeRefIdeal,
  fun m ρ _ => Cert.Norm.Gen.frame m ρ, fun m ρ _ => Cert.NormIdeal.Gen.frame m ρ, quiescent_NormRefIdeal,
  fun m ρ _ => Cert.ResidNorm.Gen.frame m ρ, fun m ρ _ => Cert.ResidNormIdeal.Gen.frame m ρ, quiescent_ResidNormRefIdeal,
  fun m ρ _ => Cert.Resid.Gen.frame m ρ, fun m ρ _ => Cert.ResidIdeal.Gen.frame m ρ, quiescent_ResidRefIdeal,
  (trivial : preserves_Conv_ConvIdeal), Cert.ConvIdeal.Sum.algebraic,
  (trivial : preserves_FfnIn_FfnInIdeal), Cert.FfnInIdeal.Sum.algebraic,
  (trivial : preserves_InProj_InProjIdeal), Cert.InProjIdeal.Sum.algebraic,
  (trivial : preserves_FfnOut_FfnOutIdeal), Cert.FfnOutIdeal.Sum.algebraic,
  (trivial : preserves_MixOut_MixOutIdeal), Cert.MixOutIdeal.Sum.algebraic,
  (trivial : preserves_Merge_MergeIdeal), Cert.MergeIdeal.Sum.algebraic,
  (trivial : preserves_Norm_NormIdeal), Cert.NormIdeal.Sum.algebraic,
  (trivial : preserves_ResidNorm_ResidNormIdeal), Cert.ResidNormIdeal.Sum.algebraic,
  (trivial : preserves_Resid_ResidIdeal), Cert.ResidIdeal.Sum.algebraic⟩

end Cert.Proof

end
